-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x2048 : Shape := ⟨2, ![4, 2048]⟩
abbrev S4x2048x64 : Shape := ⟨3, ![4, 2048, 64]⟩
abbrev S131072 : Shape := ⟨1, ![131072]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : IVec S4x2048 32) (main_arg1 : IVec S4x2048 1) (main_arg2 : IVec S4x2048 1) (main_arg3 : FVec F S4x2048x64 .f32) (main_arg4 : FVec F S4x2048x64 .f32) (main_arg5 : IVec S131072 32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  let main_c_0 : IVec S_ 32 := constantI S_ 32 20000#32
  let main_v2 : IVec S4x2048 32 := broadcastInDim S4x2048 ![] bcast_S_S4x2048 main_c_0
  let main_v3 : IVec S4x2048 1 := cmpi .slt main_arg0 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  let main_c_2 : IVec S_ 32 := constantI S_ 32 0#32
  let main_v6 : IVec S131072 32 := broadcastInDim S131072 ![] bcast_S_S131072 main_c_2
  let main_v7 : IVec S131072 1 := cmpi .sge main_arg5 main_v6
  let main_c_3 : IVec S_ 32 := constantI S_ 32 400000000#32
  let main_v8 : IVec S131072 32 := broadcastInDim S131072 ![] bcast_S_S131072 main_c_3
  let main_v9 : IVec S131072 1 := cmpi .slt main_arg5 main_v8
  let main_v10 : IVec S131072 1 := andi main_v7 main_v9
  let main_c_4 : IVec S_ 1 := constantI S_ 1 1#1
  let main_v11 : IVec S_ 1 := (fun x v => Host.reduce IntOp.andi x v reducesTo_S131072_S_d0 h_S_) main_v10 main_c_4
  let main_v12 : IVec S_ 1 := andi main_v5 main_v11
  main_v12
-- ==== Kernel.lean ====
abbrev S4x2048 : Shape := ⟨2, ![4, 2048]⟩
abbrev S4x2048x64 : Shape := ⟨3, ![4, 2048, 64]⟩
abbrev S131072 : Shape := ⟨1, ![131072]⟩
abbrev S_ : Shape := ⟨0, ![]⟩
abbrev S4x1x2048 : Shape := ⟨3, ![4, 1, 2048]⟩
abbrev S32x1x256 : Shape := ⟨3, ![32, 1, 256]⟩
abbrev S1 : Shape := ⟨1, ![1]⟩
abbrev S131071 : Shape := ⟨1, ![131071]⟩
abbrev S20000x640 : Shape := ⟨2, ![20000, 640]⟩
abbrev S131072x1 : Shape := ⟨2, ![131072, 1]⟩
abbrev S131072x2 : Shape := ⟨2, ![131072, 2]⟩
abbrev S8192 : Shape := ⟨1, ![8192]⟩
abbrev S12800000 : Shape := ⟨1, ![12800000]⟩
abbrev S16777216 : Shape := ⟨1, ![16777216]⟩
abbrev S272 : Shape := ⟨1, ![272]⟩
abbrev S2048 : Shape := ⟨1, ![2048]⟩
abbrev S640 : Shape := ⟨1, ![640]⟩
abbrev S256 : Shape := ⟨1, ![256]⟩
abbrev S16 : Shape := ⟨1, ![16]⟩
abbrev S4x2048x2048 : Shape := ⟨3, ![4, 2048, 2048]⟩
abbrev S1x1 : Shape := ⟨2, ![1, 1]⟩
abbrev S1x256x64 : Shape := ⟨3, ![1, 256, 64]⟩
abbrev S1x2048x64 : Shape := ⟨3, ![1, 2048, 64]⟩
abbrev S1x256x2048 : Shape := ⟨3, ![1, 256, 2048]⟩
abbrev S1x1x256 : Shape := ⟨3, ![1, 1, 256]⟩
abbrev S1x1x2048 : Shape := ⟨3, ![1, 1, 2048]⟩
abbrev S256x64 : Shape := ⟨2, ![256, 64]⟩
abbrev S2048x64 : Shape := ⟨2, ![2048, 64]⟩
abbrev S256x2048 : Shape := ⟨2, ![256, 2048]⟩
abbrev S256x1 : Shape := ⟨2, ![256, 1]⟩
abbrev S1x2048 : Shape := ⟨2, ![1, 2048]⟩
abbrev S1x1x1 : Shape := ⟨3, ![1, 1, 1]⟩
abbrev S1x256 : Shape := ⟨2, ![1, 256]⟩

abbrev nBuf : Table → Nat
  | .hbm => 107
  | .local .tc .vmem => 12
  | .local .scVector .vmem => 5
  | _ => 0

abbrev bufTy : (tb : Table) → Fin (nBuf tb) → BufTy
  | .hbm, ⟨0, _⟩ => ⟨S4x2048, .i32⟩
  | .hbm, ⟨1, _⟩ => ⟨S4x2048, .i1⟩
  | .hbm, ⟨2, _⟩ => ⟨S4x2048, .i1⟩
  | .hbm, ⟨3, _⟩ => ⟨S4x2048x64, .f32⟩
  | .hbm, ⟨4, _⟩ => ⟨S4x2048x64, .f32⟩
  | .hbm, ⟨5, _⟩ => ⟨S131072, .i32⟩
  | .hbm, ⟨6, _⟩ => ⟨S_, .i32⟩
  | .hbm, ⟨7, _⟩ => ⟨S4x2048, .i32⟩
  | .hbm, ⟨8, _⟩ => ⟨S4x2048, .i1⟩
  | .hbm, ⟨9, _⟩ => ⟨S4x2048, .i1⟩
  | .hbm, ⟨10, _⟩ => ⟨S4x2048, .i1⟩
  | .hbm, ⟨11, _⟩ => ⟨S4x2048, .i1⟩
  | .hbm, ⟨12, _⟩ => ⟨S4x2048, .i1⟩
  | .hbm, ⟨13, _⟩ => ⟨S4x2048, .f32⟩
  | .hbm, ⟨14, _⟩ => ⟨S4x1x2048, .f32⟩
  | .hbm, ⟨15, _⟩ => ⟨S4x2048, .f32⟩
  | .hbm, ⟨16, _⟩ => ⟨S32x1x256, .f32⟩
  | .hbm, ⟨17, _⟩ => ⟨S131072, .i32⟩
  | .hbm, ⟨18, _⟩ => ⟨S_, .i1⟩
  | .hbm, ⟨19, _⟩ => ⟨S1, .i1⟩
  | .hbm, ⟨20, _⟩ => ⟨S131071, .i32⟩
  | .hbm, ⟨21, _⟩ => ⟨S131071, .i32⟩
  | .hbm, ⟨22, _⟩ => ⟨S131071, .i1⟩
  | .hbm, ⟨23, _⟩ => ⟨S131072, .i1⟩
  | .hbm, ⟨24, _⟩ => ⟨S_, .i32⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S131072, .i32⟩
  | .hbm, ⟨33, _⟩ => ⟨S131072, .i32⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S131072, .i1⟩
  | .hbm, ⟨38, _⟩ => ⟨S_, .i32⟩
  | .hbm, ⟨39, _⟩ => ⟨S131072, .i32⟩
  | .hbm, ⟨40, _⟩ => ⟨S131072, .i32⟩
  | .hbm, ⟨41, _⟩ => ⟨S131072, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i1⟩
  | .hbm, ⟨56, _⟩ => ⟨S_, .i32⟩
  | .hbm, ⟨57, _⟩ => ⟨S_, .i1⟩
  | .hbm, ⟨58, _⟩ => ⟨S131072, .i1⟩
  | .hbm, ⟨59, _⟩ => ⟨S131072, .i1⟩
  | .hbm, ⟨60, _⟩ => ⟨S131072, .i1⟩
  | .hbm, ⟨61, _⟩ => ⟨S131072, .i32⟩
  | .hbm, ⟨62, _⟩ => ⟨S131072, .i32⟩
  | .hbm, ⟨63, _⟩ => ⟨S131072, .i32⟩
  | .hbm, ⟨64, _⟩ => ⟨S_, .i32⟩
  | .hbm, ⟨65, _⟩ => ⟨S131072, .i32⟩
  | .hbm, ⟨66, _⟩ => ⟨S131072, .i32⟩
  | .hbm, ⟨67, _⟩ => ⟨S_, .i32⟩
  | .hbm, ⟨68, _⟩ => ⟨S131072, .i32⟩
  | .hbm, ⟨69, _⟩ => ⟨S131072, .i32⟩
  | .hbm, ⟨70, _⟩ => ⟨S_, .i32⟩
  | .hbm, ⟨71, _⟩ => ⟨S131072, .i32⟩
  | .hbm, ⟨72, _⟩ => ⟨S131072, .i32⟩
  | .hbm, ⟨73, _⟩ => ⟨S_, .i32⟩
  | .hbm, ⟨74, _⟩ => ⟨S131072, .i32⟩
  | .hbm, ⟨75, _⟩ => ⟨S131072, .i32⟩
  | .hbm, ⟨76, _⟩ => ⟨S_, .i32⟩
  | .hbm, ⟨77, _⟩ => ⟨S20000x640, .i32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S_, .i32⟩
  | .hbm, ⟨86, _⟩ => ⟨S131072, .i32⟩
  | .hbm, ⟨87, _⟩ => ⟨S131072, .i1⟩
  | .hbm, ⟨88, _⟩ => ⟨S_, .i32⟩
  | .hbm, ⟨89, _⟩ => ⟨S131072, .i32⟩
  | .hbm, ⟨90, _⟩ => ⟨S131072, .i32⟩
  | .hbm, ⟨91, _⟩ => ⟨S131072, .i32⟩
  | .hbm, ⟨92, _⟩ => ⟨S131072x1, .i32⟩
  | .hbm, ⟨93, _⟩ => ⟨S131072x1, .i32⟩
  | .hbm, ⟨94, _⟩ => ⟨S131072x2, .i32⟩
  | .hbm, ⟨95, _⟩ => ⟨S20000x640, .i32⟩
  | .hbm, ⟨96, _⟩ => ⟨S8192, .i32⟩
  | .hbm, ⟨97, _⟩ => ⟨S12800000, .i32⟩
  | .hbm, ⟨98, _⟩ => ⟨S16777216, .f32⟩
  | .hbm, ⟨99, _⟩ => ⟨S4x2048x2048, .f32⟩
  | .hbm, ⟨100, _⟩ => ⟨S1x1, .f32⟩
  | .hbm, ⟨101, _⟩ => ⟨S1x1, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .local .tc .vmem, ⟨0, _⟩ => ⟨S1x256x64, .f32⟩
  | .local .tc .vmem, ⟨1, _⟩ => ⟨S1x256x64, .f32⟩
  | .local .tc .vmem, ⟨2, _⟩ => ⟨S1x2048x64, .f32⟩
  | .local .tc .vmem, ⟨3, _⟩ => ⟨S1x2048x64, .f32⟩
  | .local .tc .vmem, ⟨4, _⟩ => ⟨S1x256x2048, .f32⟩
  | .local .tc .vmem, ⟨5, _⟩ => ⟨S1x256x2048, .f32⟩
  | .local .tc .vmem, ⟨6, _⟩ => ⟨S1x1x256, .f32⟩
  | .local .tc .vmem, ⟨7, _⟩ => ⟨S1x1x256, .f32⟩
  | .local .tc .vmem, ⟨8, _⟩ => ⟨S1x1x2048, .f32⟩
  | .local .tc .vmem, ⟨9, _⟩ => ⟨S1x1x2048, .f32⟩
  | .local .tc .vmem, ⟨10, _⟩ => ⟨S1x1, .f32⟩
  | .local .tc .vmem, ⟨11, _⟩ => ⟨S1x1, .f32⟩
  | .local .scVector .vmem, ⟨0, _⟩ => ⟨S272, .i32⟩
  | .local .scVector .vmem, ⟨1, _⟩ => ⟨S2048, .i32⟩
  | .local .scVector .vmem, ⟨2, _⟩ => ⟨S2048, .i32⟩
  | .local .scVector .vmem, ⟨3, _⟩ => ⟨S640, .i32⟩
  | .local .scVector .vmem, ⟨4, _⟩ => ⟨S2048, .f32⟩
  | _, _ => ⟨S4x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v16 : Ref sig .tc := ⟨.hbm, 41, rfl⟩
abbrev main_c_2 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_1 : Ref sig .tc := ⟨.hbm, 50, rfl⟩
abbrev main_call2_v5 : Ref sig .tc := ⟨.hbm, 51, rfl⟩
abbrev main_call2_v6 : Ref sig .tc := ⟨.hbm, 52, rfl⟩
abbrev main_call2_c_2 : Ref sig .tc := ⟨.hbm, 53, rfl⟩
abbrev main_call2_v7 : Ref sig .tc := ⟨.hbm, 54, rfl⟩
abbrev main_call2_v8 : Ref sig .tc := ⟨.hbm, 55, rfl⟩
abbrev main_call2_c_3 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_v17 : Ref sig .tc := ⟨.hbm, 63, rfl⟩
abbrev main_c_3 : Ref sig .tc := ⟨.hbm, 64, rfl⟩
abbrev main_v18 : Ref sig .tc := ⟨.hbm, 65, rfl⟩
abbrev main_v19 : Ref sig .tc := ⟨.hbm, 66, rfl⟩
abbrev main_c_4 : Ref sig .tc := ⟨.hbm, 67, rfl⟩
abbrev main_v20 : Ref sig .tc := ⟨.hbm, 68, rfl⟩
abbrev main_v21 : Ref sig .tc := ⟨.hbm, 69, rfl⟩
abbrev main_c_5 : Ref sig .tc := ⟨.hbm, 70, rfl⟩
abbrev main_v22 : Ref sig .tc := ⟨.hbm, 71, rfl⟩
abbrev main_v23 : Ref sig .tc := ⟨.hbm, 72, rfl⟩
abbrev main_c_6 : Ref sig .tc := ⟨.hbm, 73, rfl⟩
abbrev main_call3_v0 : Ref sig .tc := ⟨.hbm, 74, rfl⟩
abbrev main_v24 : Ref sig .tc := ⟨.hbm, 75, rfl⟩
abbrev main_c_7 : Ref sig .tc := ⟨.hbm, 76, rfl⟩
abbrev main_v25 : Ref sig .tc := ⟨.hbm, 77, rfl⟩
abbrev main_c_8 : Ref sig .tc := ⟨.hbm, 78, rfl⟩
abbrev main_v26 : Ref sig .tc := ⟨.hbm, 79, rfl⟩
abbrev main_v27 : Ref sig .tc := ⟨.hbm, 80, rfl⟩
abbrev main_c_9 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_c_10 : Ref sig .tc := ⟨.hbm, 85, rfl⟩
abbrev main_v31 : Ref sig .tc := ⟨.hbm, 86, rfl⟩
abbrev main_v32 : Ref sig .tc := ⟨.hbm, 87, rfl⟩
abbrev main_c_11 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44_0 : Ref sig .tc := ⟨.hbm, 100, rfl⟩
abbrev main_v44_1 : Ref sig .tc := ⟨.hbm, 101, rfl⟩
abbrev main_v45 : Ref sig .tc := ⟨.hbm, 102, rfl⟩
abbrev main_v46 : Ref sig .tc := ⟨.hbm, 103, rfl⟩
abbrev main_cst : Ref sig .tc := ⟨.hbm, 104, rfl⟩
abbrev main_v47 : Ref sig .tc := ⟨.hbm, 105, rfl⟩
abbrev main_v48 : Ref sig .tc := ⟨.hbm, 106, rfl⟩
abbrev main_v41_scv : Ref sig .scVector := ⟨.hbm, 97, rfl⟩
abbrev main_v40_scv : Ref sig .scVector := ⟨.hbm, 96, rfl⟩
abbrev main_v42_scv : Ref sig .scVector := ⟨.hbm, 98, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c2048_i32 : BitVec 32 := 2048#32
  let v20 : BitVec 32 := Scalar.muli v19 c2048_i32
  ![v20.toNat]
@[reducible] def k0_t1_loop : Scf.Loop 32 :=
  let c0_i32_5 : BitVec 32 := 0#32
  let c128_i32 : BitVec 32 := 128#32
  let v21 : BitVec 32 := Scalar.addi c0_i32_5 c128_i32
  let c1_i32_6 : BitVec 32 := 1#32
  ⟨c0_i32_5, v21, c1_i32_6⟩
def k0_off3 (k0_t1 : Fin k0_t1_loop.trips) : Fin 1 → Nat :=
  let c0_i32_5 : BitVec 32 := 0#32
  let c1_i32_6 : BitVec 32 := 1#32
  let arg10 : BitVec 32 := Scf.iv c0_i32_5 c1_i32_6 k0_t1
  let c16_i32 : BitVec 32 := 16#32
  let v25 : BitVec 32 := Scalar.muli arg10 c16_i32
  let v26 : Index := Scalar.indexCast v25
  ![v26.toNat]
@[reducible] def k0_t2_loop : Scf.Loop 32 :=
  let c0_i32_9 : BitVec 32 := 0#32
  let c256_i32_10 : BitVec 32 := 256#32
  let v23 : BitVec 32 := Scalar.addi c0_i32_9 c256_i32_10
  let c1_i32_11 : BitVec 32 := 1#32
  ⟨c0_i32_9, v23, c1_i32_11⟩
def k0_off4 (k0_t2 : Fin k0_t2_loop.trips) : Fin 1 → Nat :=
  let c0_i32_9 : BitVec 32 := 0#32
  let c1_i32_11 : BitVec 32 := 1#32
  let arg10 : BitVec 32 := Scf.iv c0_i32_9 c1_i32_11 k0_t2
  let v25 : Index := Scalar.indexCast arg10
  ![v25.toNat]
def k0_off5 (v28 : BitVec 32) : Fin 1 → Nat :=
  let c640_i32 : BitVec 32 := 640#32
  let v29 : BitVec 32 := Scalar.muli v28 c640_i32
  ![v29.toNat]

def k0_chk1 (v28 : BitVec 32) : Prop :=
  (∀ a, (k0_off5 v28) a + S640.size a ≤ S12800000.size a)
theorem k0_off5_inb : ∀ (v28 : BitVec 32) (k0_hw1 : k0_chk1 v28), ∀ a, (k0_off5 v28) a + S640.size a ≤ S12800000.size a := fun v28 k0_hw1 => k0_hw1

@[reducible] def k0_t3_loop : Scf.Loop 32 :=
  let c0_i32_14 : BitVec 32 := 0#32
  let c128_i32_15 : BitVec 32 := 128#32
  let v30 : BitVec 32 := Scalar.addi c0_i32_14 c128_i32_15
  let c1_i32_16 : BitVec 32 := 1#32
  ⟨c0_i32_14, v30, c1_i32_16⟩
def k0_off6 (k0_t3 : Fin k0_t3_loop.trips) : Fin 1 → Nat :=
  let c0_i32_14 : BitVec 32 := 0#32
  let c1_i32_16 : BitVec 32 := 1#32
  let arg12 : BitVec 32 := Scf.iv c0_i32_14 c1_i32_16 k0_t3
  let c16_i32 : BitVec 32 := 16#32
  let v34 : BitVec 32 := Scalar.muli arg12 c16_i32
  let v35 : Index := Scalar.indexCast v34
  ![v35.toNat]

def k0_chk2 (v36 : IVec S16 32) : Prop :=
  (∀ a x, ((![v36] : Fin 1 → IVec S16 32) a x).toNat < S640.size a)
theorem k0_idx1_inb : ∀ (v36 : IVec S16 32) (k0_hw2 : k0_chk2 v36), ∀ a x, ((![v36] : Fin 1 → IVec S16 32) a x).toNat < S640.size a := fun v36 k0_hw2 => k0_hw2
def k0_off7 (k0_t3 : Fin k0_t3_loop.trips) : Fin 1 → Nat :=
  let c0_i32_14 : BitVec 32 := 0#32
  let c1_i32_16 : BitVec 32 := 1#32
  let arg12 : BitVec 32 := Scf.iv c0_i32_14 c1_i32_16 k0_t3
  let c16_i32 : BitVec 32 := 16#32
  let v34 : BitVec 32 := Scalar.muli arg12 c16_i32
  let v44 : Index := Scalar.indexCast v34
  ![v44.toNat]
def k0_off8 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_9 : BitVec 32 := 0#32
  let c1_i32_11 : BitVec 32 := 1#32
  let arg10 : BitVec 32 := Scf.iv c0_i32_9 c1_i32_11 k0_t2
  let v32 : BitVec 32 := Scalar.addi v2 arg10
  let c2048_i32_18 : BitVec 32 := 2048#32
  let v33 : BitVec 32 := Scalar.muli v32 c2048_i32_18
  ![v33.toNat]
abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048 : Shape := ⟨2, ![4, 2048]⟩
abbrev S4x2048x64 : Shape := ⟨3, ![4, 2048, 64]⟩
abbrev S131072 : Shape := ⟨1, ![131072]⟩
abbrev S_ : Shape := ⟨0, ![]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S4x2048x2048x1 : Shape := ⟨4, ![4, 2048, 2048, 1]⟩
abbrev S1x1x1x131072 : Shape := ⟨4, ![1, 1, 1, 131072]⟩
abbrev S4x2048x2048x131072 : Shape := ⟨4, ![4, 2048, 2048, 131072]⟩
abbrev S1 : Shape := ⟨1, ![1]⟩
abbrev S1x1x1x1 : Shape := ⟨4, ![1, 1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S4x2048, .i1⟩
  | .hbm, ⟨2, _⟩ => ⟨S4x2048, .i1⟩
  | .hbm, ⟨3, _⟩ => ⟨S4x2048x64, .f32⟩
  | .hbm, ⟨4, _⟩ => ⟨S4x2048x64, .f32⟩
  | .hbm, ⟨5, _⟩ => ⟨S131072, .i32⟩
  | .hbm, ⟨6, _⟩ => ⟨S_, .i32⟩
  | .hbm, ⟨7, _⟩ => ⟨S4x2048, .i32⟩
  | .hbm, ⟨8, _⟩ => ⟨S4x2048, .i1⟩
  | .hbm, ⟨9, _⟩ => ⟨S4x2048, .i1⟩
  | .hbm, ⟨10, _⟩ => ⟨S4x2048, .i1⟩
  | .hbm, ⟨11, _⟩ => ⟨S4x2048, .i1⟩
  | .hbm, ⟨12, _⟩ => ⟨S4x2048, .i1⟩
  | .hbm, ⟨13, _⟩ => ⟨S4x2048x1, .i1⟩
  | .hbm, ⟨14, _⟩ => ⟨S4x1x2048, .i1⟩
  | .hbm, ⟨15, _⟩ => ⟨S4x2048x2048, .i1⟩
  | .hbm, ⟨16, _⟩ => ⟨S4x2048x2048, .i1⟩
  | .hbm, ⟨17, _⟩ => ⟨S4x2048x2048, .i1⟩
  | .hbm, ⟨18, _⟩ => ⟨S4x2048x1, .i32⟩
  | .hbm, ⟨19, _⟩ => ⟨S_, .i32⟩
  | .hbm, ⟨20, _⟩ => ⟨S4x2048x1, .i32⟩
  | .hbm, ⟨21, _⟩ => ⟨S4x2048x1, .i32⟩
  | .hbm, ⟨22, _⟩ => ⟨S4x1x2048, .i32⟩
  | .hbm, ⟨23, _⟩ => ⟨S4x2048x2048, .i32⟩
  | .hbm, ⟨24, _⟩ => ⟨S4x2048x2048, .i32⟩
  | .hbm, ⟨25, _⟩ => ⟨S4x2048x2048, .i32⟩
  | .hbm, ⟨26, _⟩ => ⟨S131072, .i32⟩
  | .hbm, ⟨27, _⟩ => ⟨S4x2048x2048x1, .i32⟩
  | .hbm, ⟨28, _⟩ => ⟨S1x1x1x131072, .i32⟩
  | .hbm, ⟨29, _⟩ => ⟨S4x2048x2048x131072, .i32⟩
  | .hbm, ⟨30, _⟩ => ⟨S4x2048x2048x131072, .i32⟩
  | .hbm, ⟨31, _⟩ => ⟨S4x2048x2048x131072, .i1⟩
  | .hbm, ⟨32, _⟩ => ⟨S4x2048x2048x131072, .i32⟩
  | .hbm, ⟨33, _⟩ => ⟨S_, .i32⟩
  | .hbm, ⟨34, _⟩ => ⟨S4x2048x2048, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S4x2048x2048, .i32⟩
  | .hbm, ⟨39, _⟩ => ⟨S4x2048x2048, .i32⟩
  | .hbm, ⟨40, _⟩ => ⟨S_, .i32⟩
  | .hbm, ⟨41, _⟩ => ⟨S4x2048x2048, .i32⟩
  | .hbm, ⟨42, _⟩ => ⟨S4x2048x2048, .i32⟩
  | .hbm, ⟨43, _⟩ => ⟨S_, .i32⟩
  | .hbm, ⟨44, _⟩ => ⟨S4x2048x2048, .i32⟩
  | .hbm, ⟨45, _⟩ => ⟨S4x2048x2048, .i1⟩
  | .hbm, ⟨46, _⟩ => ⟨S_, .i32⟩
  | .hbm, ⟨47, _⟩ => ⟨S4x2048x2048, .i32⟩
  | .hbm, ⟨48, _⟩ => ⟨S4x2048x2048, .i32⟩
  | .hbm, ⟨49, _⟩ => ⟨S4x2048x2048, .i32⟩
  | .hbm, ⟨50, _⟩ => ⟨S4x2048x2048x1, .i32⟩
  | .hbm, ⟨51, _⟩ => ⟨S1, .i32⟩
  | .hbm, ⟨52, _⟩ => ⟨S_, .i32⟩
  | .hbm, ⟨53, _⟩ => ⟨S4x2048x2048x1, .i32⟩
  | .hbm, ⟨54, _⟩ => ⟨S4x2048x2048x1, .i1⟩
  | .hbm, ⟨55, _⟩ => ⟨S1x1x1x1, .i32⟩
  | .hbm, ⟨56, _⟩ => ⟨S4x2048x2048x1, .i32⟩
  | .hbm, ⟨57, _⟩ => ⟨S4x2048x2048x1, .i1⟩
  | .hbm, ⟨58, _⟩ => ⟨S4x2048x2048x1, .i1⟩
  | .hbm, ⟨59, _⟩ => ⟨S_, .i1⟩
  | .hbm, ⟨60, _⟩ => ⟨S4x2048x2048, .i1⟩
  | .hbm, ⟨61, _⟩ => ⟨S4x2048x2048, .i32⟩
  | .hbm, ⟨62, _⟩ => ⟨S_, .i32⟩
  | .hbm, ⟨63, _⟩ => ⟨S4x2048x2048, .i32⟩
  | .hbm, ⟨64, _⟩ => ⟨S4x2048x2048, .i32⟩
  | .hbm, ⟨65, _⟩ => ⟨S4x2048x2048, .i1⟩
  | .hbm, ⟨66, _⟩ => ⟨S4x2048x2048, .i1⟩
  | .hbm, ⟨67, _⟩ => ⟨S4x2048x2048, .f32⟩
  | .hbm, ⟨68, _⟩ => ⟨S4x2048x2048, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4x2048x2048, .f32⟩
  | .hbm, ⟨73, _⟩ => ⟨S4x2048x2048, .f32⟩
  | .hbm, ⟨74, _⟩ => ⟨S_, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S4x2048x2048, .f32⟩
  | .hbm, ⟨79, _⟩ => ⟨S_, .f32⟩
  | .hbm, ⟨80, _⟩ => ⟨S4x2048x2048, .f32⟩
  | .hbm, ⟨81, _⟩ => ⟨S4x2048x2048, .f32⟩
  | .hbm, ⟨82, _⟩ => ⟨S_, .f32⟩
  | .hbm, ⟨83, _⟩ => ⟨S4x2048x2048, .f32⟩
  | .hbm, ⟨84, _⟩ => ⟨S4x2048x2048, .f32⟩
  | .hbm, ⟨85, _⟩ => ⟨S4x2048x2048, .f32⟩
  | .hbm, ⟨86, _⟩ => ⟨S4x2048x2048, .f32⟩
  | .hbm, ⟨87, _⟩ => ⟨S4x2048x2048, .f32⟩
  | .hbm, ⟨88, _⟩ => ⟨S4x2048x2048, .f32⟩
  | .hbm, ⟨89, _⟩ => ⟨S_, .f32⟩
  | .hbm, ⟨90, _⟩ => ⟨S4x2048x2048, .f32⟩
  | .hbm, ⟨91, _⟩ => ⟨S4x2048x2048, .f32⟩
  | .hbm, ⟨92, _⟩ => ⟨S_, .f32⟩
  | .hbm, ⟨93, _⟩ => ⟨S4x2048x2048, .f32⟩
  | .hbm, ⟨94, _⟩ => ⟨S4x2048x2048, .f32⟩
  | .hbm, ⟨95, _⟩ => ⟨S_, .f32⟩
  | .hbm, ⟨96, _⟩ => ⟨S4x2048x2048, .f32⟩
  | .hbm, ⟨97, _⟩ => ⟨S4x2048x2048, .f32⟩
  | .hbm, ⟨98, _⟩ => ⟨S4x2048x2048, .f32⟩
  | .hbm, ⟨99, _⟩ => ⟨S4x2048x2048, .f32⟩
  | .hbm, ⟨100, _⟩ => ⟨S4x2048x2048, .f32⟩
  | .hbm, ⟨101, _⟩ => ⟨S4x2048x2048, .f32⟩
  | .hbm, ⟨102, _⟩ => ⟨S_, .f32⟩
  | .hbm, ⟨103, _⟩ => ⟨S_, .f32⟩
  | .hbm, ⟨104, _⟩ => ⟨S4x2048x2048, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_c_2 : Ref sig .tc := ⟨.hbm, 35, rfl⟩
abbrev main_c_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v26 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_c_4 : Ref sig .tc := ⟨.hbm, 62, rfl⟩
abbrev main_call2_v14 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst : Ref sig .tc := ⟨.hbm, 69, rfl⟩
abbrev main_cst_4 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_5 : Ref sig .tc := ⟨.hbm, 79, rfl⟩
abbrev main_v35 : Ref sig .tc := ⟨.hbm, 80, rfl⟩
abbrev main_v36 : Ref sig .tc := ⟨.hbm, 81, rfl⟩
abbrev main_cst_6 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_7 : Ref sig .tc := ⟨.hbm, 89, rfl⟩
abbrev main_v43 : Ref sig .tc := ⟨.hbm, 90, rfl⟩
abbrev main_v44 : Ref sig .tc := ⟨.hbm, 91, rfl⟩
abbrev main_cst_8 : Ref sig .tc := ⟨.hbm, 92, rfl⟩
abbrev main_v45 : Ref sig .tc := ⟨.hbm, 93, rfl⟩
abbrev main_v46 : Ref sig .tc := ⟨.hbm, 94, rfl⟩
abbrev main_cst_9 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_10 : Ref sig .tc := ⟨.hbm, 102, rfl⟩
abbrev main_v53 : Ref sig .tc := ⟨.hbm, 103, rfl⟩
abbrev main_v54 : Ref sig .tc := ⟨.hbm, 104, rfl⟩
abbrev main_cst_11 : Ref sig .tc := ⟨.hbm, 105, rfl⟩
abbrev main_v55 : Ref sig .tc := ⟨.hbm, 106, rfl⟩
abbrev main_cst_12 : Ref sig .tc := ⟨.hbm, 107, rfl⟩
abbrev main_v56 : Ref sig .tc := ⟨.hbm, 108, rfl⟩
abbrev main_v57 : Ref sig .tc := ⟨.hbm, 109, rfl⟩

abbrev nD : Nat := 1
abbrev τ : Topo := Topo.v7x

variable {F : FTy → Type} [FloatOps F]
-- ==== Proof.Setup.lean ====
/-
  The launch's vocabulary for the kernel's proof: the program as the launch theorem sees it, the ghost state, the
  buffers' locations, the value the SparseCore call leaves in its result (`gout`), and what the call's handshakes carry.
  Everything here is stated over any float model, so that the same run serves the program read with bits and read ideally.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.WritesUnit
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct where they must be and are not the program's scoped ones. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging rounds of the TensorCore call, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL

/-- The staging rounds of the TensorCore call: the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The buffers of the SparseCore call -/

/-- The bitmap, the flat ids and the mask, as locations of device `d`. -/
abbrev bmLoc (d : Dev nD) : Loc nD τ sig := (SparseCore.T d).loc main_v41
abbrev idLoc (d : Dev nD) : Loc nD τ sig := (SparseCore.T d).loc main_v40
abbrev outLoc (d : Dev nD) : Loc nD τ sig := (SparseCore.T d).loc main_v42

/-! ## What the SparseCore call computes -/

/-- The bitmap's word number `n` (read at `n` modulo its length, so that it is total). -/
def bmAt (bm : S12800000.Idx → BitVec 32) (n : ℕ) : BitVec 32 := bm fun | 0 => ⟨n % 12800000, Nat.mod_lt _ (by decide)⟩
/-- Id number `n` of the flattened ids (read at `n` modulo their number). -/
def idAt (ids : S8192.Idx → BitVec 32) (n : ℕ) : BitVec 32 := ids fun | 0 => ⟨n % 8192, Nat.mod_lt _ (by decide)⟩

/-- Bit `b` of the word `w`, as a float: 1 if it is set, else 0 (the kernel shifts, masks and converts). -/
def bitF (w b : BitVec 32) : F .f32 := FloatOps.sitofp .f32 (IntOp.andi (IntOp.shrui .vector w b) 1#32)

/-- Row `row`, column `j` of the mask: the bit of the bitmap's row `ids[row]` that column id names. -/
def goutAt (bm : S12800000.Idx → BitVec 32) (ids : S8192.Idx → BitVec 32) (row j : ℕ) : F .f32 :=
  bitF (bmAt bm ((idAt ids row).toNat * 640 + (IntOp.shrui .vector (idAt ids (row / 2048 * 2048 + j)) 5#32).toNat))
    (IntOp.andi (idAt ids (row / 2048 * 2048 + j)) 31#32)

/-- The whole mask the SparseCore call leaves, a function of the bitmap and the ids. -/
def gout (bm : S12800000.Idx → BitVec 32) (ids : S8192.Idx → BitVec 32) : S16777216.Idx → F .f32 :=
  fun x => goutAt bm ids ((x 0).val / 2048) ((x 0).val % 2048)

/-- The elements of the mask that tile `(c, s)` writes: 256 rows of 2048, from row `(2 s + c) · 256` on. -/
def tileSet (c s : ℕ) : Finset S16777216.Idx :=
  Finset.univ.filter fun x => (2 * s + c) * 524288 ≤ (x 0).val ∧ (x 0).val < (2 * s + c + 1) * 524288

/-- The elements of the mask SparseCore `c`'s tiles write. -/
def coreSet (c : ℕ) : Finset S16777216.Idx :=
  Finset.univ.filter fun x => (x 0).val / 524288 % 2 = c

theorem mem_tileSet {c s : ℕ} {x : S16777216.Idx} :
    x ∈ tileSet c s ↔ (2 * s + c) * 524288 ≤ (x 0).val ∧ (x 0).val < (2 * s + c + 1) * 524288 := by simp [tileSet]
theorem mem_coreSet {c : ℕ} {x : S16777216.Idx} : x ∈ coreSet c ↔ (x 0).val / 524288 % 2 = c := by simp [coreSet]

end Cert.Proof.Run

end
-- ==== Proof.Host.lean ====
/-
  @main's host operations as three lists: those before the SparseCore call, the one between the two calls, those after the
  TensorCore call; @main is these lists around the two calls.
-/
module

public import proofs.«01_k».proof.Proof.Setup

@[expose] public section

noncomputable section

namespace Cert.Proof.Run

open Cert.KernelIdeal Cert.KernelIdeal.Gen
open Idealize.ShloMosaic Idealize.ShloMosaic.TcCoe Idealize.ShloMosaic.StableHlo
open Idealize.ShloMosaic.SparseCore (S V T)
open Idealize.SL Idealize.SL.Sem

variable {F : FTy → Type} [FloatOps F]

/-- The host operations before the SparseCore call (a called function's operations stand in its call's place). -/
abbrev opsA : List (HloOp τ sig (Elt F)) :=
  [ nullary main_c (constantI S_ 32 0#32),
    unary main_c main_v0 (broadcastInDim S4x2048 ![] bcast_S_S4x2048 : (⟨S_, .i32⟩ : BufTy).Contents (Elt F) → (⟨S4x2048, .i32⟩ : BufTy).Contents (Elt F)),
    binary main_arg0 main_v0 main_v1 (cmpi .ne : (⟨S4x2048, .i32⟩ : BufTy).Contents (Elt F) → (⟨S4x2048, .i32⟩ : BufTy).Contents (Elt F) → (⟨S4x2048, .i1⟩ : BufTy).Contents (Elt F)),
    unary main_arg2 main_v2 (noti : (⟨S4x2048, .i1⟩ : BufTy).Contents (Elt F) → (⟨S4x2048, .i1⟩ : BufTy).Contents (Elt F)),
    binary main_v1 main_v2 main_v3 (andi : (⟨S4x2048, .i1⟩ : BufTy).Contents (Elt F) → (⟨S4x2048, .i1⟩ : BufTy).Contents (Elt F) → (⟨S4x2048, .i1⟩ : BufTy).Contents (Elt F)),
    unary main_arg1 main_v4 (noti : (⟨S4x2048, .i1⟩ : BufTy).Contents (Elt F) → (⟨S4x2048, .i1⟩ : BufTy).Contents (Elt F)),
    binary main_v3 main_v4 main_v5 (andi : (⟨S4x2048, .i1⟩ : BufTy).Contents (Elt F) → (⟨S4x2048, .i1⟩ : BufTy).Contents (Elt F) → (⟨S4x2048, .i1⟩ : BufTy).Contents (Elt F)),
    unary main_v3 main_v6 (uitofp .f32 : (⟨S4x2048, .i1⟩ : BufTy).Contents (Elt F) → (⟨S4x2048, .f32⟩ : BufTy).Contents (Elt F)),
    reshape main_v6 main_v7 (rfl : (.f32 : EltTy) = .f32) shapeCasts_S4x2048_S4x1x2048,
    unary main_v5 main_v8 (uitofp .f32 : (⟨S4x2048, .i1⟩ : BufTy).Contents (Elt F) → (⟨S4x2048, .f32⟩ : BufTy).Contents (Elt F)),
    reshape main_v8 main_v9 (rfl : (.f32 : EltTy) = .f32) shapeCasts_S4x2048_S32x1x256,
    TRef.unary (TRef.of (T := ⟨S131072, .i32⟩) main_arg5) (TRef.of (T := ⟨S131072, .i32⟩) main_v10) (fun x => Host.sort S131072 0 comparator_i32_d0 x),
    nullary main_c_0 (constantI S_ 1 1#1),
    unary main_c_0 main_v11 (broadcastInDim S1 ![] bcast_S_S1 : (⟨S_, .i1⟩ : BufTy).Contents (Elt F) → (⟨S1, .i1⟩ : BufTy).Contents (Elt F)),
    unary main_v10 main_v12 ((extractStridedSlice S131071 ![1] · slices_S131072_S131071_1) : (⟨S131072, .i32⟩ : BufTy).Contents (Elt F) → (⟨S131071, .i32⟩ : BufTy).Contents (Elt F)),
    unary main_v10 main_v13 ((extractStridedSlice S131071 ![0] · slices_S131072_S131071_0) : (⟨S131072, .i32⟩ : BufTy).Contents (Elt F) → (⟨S131071, .i32⟩ : BufTy).Contents (Elt F)),
    binary main_v12 main_v13 main_v14 (cmpi .ne : (⟨S131071, .i32⟩ : BufTy).Contents (Elt F) → (⟨S131071, .i32⟩ : BufTy).Contents (Elt F) → (⟨S131071, .i1⟩ : BufTy).Contents (Elt F)),
    binary main_v11 main_v14 main_v15 ((fun a b => concatenate S131072 0 [⟨S1, a⟩, ⟨S131071, b⟩] concatenates_S1_S131071_S131072_d0) : (⟨S1, .i1⟩ : BufTy).Contents (Elt F) → (⟨S131071, .i1⟩ : BufTy).Contents (Elt F) → (⟨S131072, .i1⟩ : BufTy).Contents (Elt F)),
    nullary main_c_1 (constantI S_ 32 20000#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S131072, .i32⟩) main_call1_v1) (broadcastInDim S131072 ![] bcast_S_S131072),
    TRef.binary (TRef.of (T := ⟨S131072, .i32⟩) main_v10) (TRef.of (T := ⟨S131072, .i32⟩) main_call1_v1) (TRef.of (T := ⟨S131072, .i32⟩) main_call1_v2) Host.divsi,
    TRef.unary (TRef.of (T := ⟨S131072, .i32⟩) main_v10) (TRef.of (T := ⟨S131072, .i32⟩) main_call1_v3) signi,
    TRef.unary (TRef.of (T := ⟨S_, .i32⟩) main_call1_v0) (TRef.of (T := ⟨S_, .i32⟩) main_call1_v4) signi,
    TRef.unary (TRef.of (T := ⟨S_, .i32⟩) main_call1_v4) (TRef.of (T := ⟨S131072, .i32⟩) main_call1_v5) (broadcastInDim S131072 ![] bcast_S_S131072),
    TRef.binary (TRef.of (T := ⟨S131072, .i32⟩) main_call1_v3) (TRef.of (T := ⟨S131072, .i32⟩) main_call1_v5) (TRef.of (T := ⟨S131072, .i1⟩) main_call1_v6) (cmpi .ne),
    TRef.unary (TRef.of (T := ⟨S_, .i32⟩) main_call1_v0) (TRef.of (T := ⟨S131072, .i32⟩) main_call1_v7) (broadcastInDim S131072 ![] bcast_S_S131072),
    TRef.binary (TRef.of (T := ⟨S131072, .i32⟩) main_v10) (TRef.of (T := ⟨S131072, .i32⟩) main_call1_v7) (TRef.of (T := ⟨S131072, .i32⟩) main_call1_v8) Host.remsi,
    TRef.nullary (TRef.of (T := ⟨S_, .i32⟩) main_call1_c) (constantI S_ 32 0#32),
    TRef.unary (TRef.of (T := ⟨S_, .i32⟩) main_call1_c) (TRef.of (T := ⟨S131072, .i32⟩) main_call1_v9) (broadcastInDim S131072 ![] bcast_S_S131072),
    TRef.binary (TRef.of (T := ⟨S131072, .i32⟩) main_call1_v8) (TRef.of (T := ⟨S131072, .i32⟩) main_call1_v9) (TRef.of (T := ⟨S131072, .i1⟩) main_call1_v10) (cmpi .ne),
    TRef.binary (TRef.of (T := ⟨S131072, .i1⟩) main_call1_v6) (TRef.of (T := ⟨S131072, .i1⟩) main_call1_v10) (TRef.of (T := ⟨S131072, .i1⟩) main_call1_v11) andi,
    TRef.nullary (TRef.of (T := ⟨S_, .i32⟩) main_call1_c_0) (constantI S_ 32 1#32),
    TRef.unary (TRef.of (T := ⟨S_, .i32⟩) main_call1_c_0) (TRef.of (T := ⟨S131072, .i32⟩) main_call1_v12) (broadcastInDim S131072 ![] bcast_S_S131072),
    TRef.binary (TRef.of (T := ⟨S131072, .i32⟩) main_call1_v2) (TRef.of (T := ⟨S131072, .i32⟩) main_call1_v12) (TRef.of (T := ⟨S131072, .i32⟩) main_call1_v13) subi,
    TRef.ternary (TRef.of (T := ⟨S131072, .i1⟩) main_call1_v11) (TRef.of (T := ⟨S131072, .i32⟩) main_call1_v13) (TRef.of (T := ⟨S131072, .i32⟩) main_call1_v2) (TRef.of (T := ⟨S131072, .i32⟩) main_v16) select,
    nullary main_c_2 (constantI S_ 32 20000#32),
    TRef.unary (TRef.of (T := ⟨S_, .i32⟩) main_c_2) (TRef.of (T := ⟨S_, .i32⟩) main_call2_v0) id,
    TRef.nullary (TRef.of (T := ⟨S_, .i32⟩) main_call2_c) (constantI S_ 32 0#32),
    TRef.binary (TRef.of (T := ⟨S_, .i32⟩) main_call2_v0) (TRef.of (T := ⟨S_, .i32⟩) main_call2_c) (TRef.of (T := ⟨S_, .i1⟩) main_call2_v1) (cmpi .eq),
    TRef.nullary (TRef.of (T := ⟨S_, .i32⟩) main_call2_c_0) (constantI S_ 32 1#32),
    TRef.ternary (TRef.of (T := ⟨S_, .i1⟩) main_call2_v1) (TRef.of (T := ⟨S_, .i32⟩) main_call2_c_0) (TRef.of (T := ⟨S_, .i32⟩) main_call2_v0) (TRef.of (T := ⟨S_, .i32⟩) main_call2_v2) select,
    TRef.unary (TRef.of (T := ⟨S_, .i32⟩) main_call2_v2) (TRef.of (T := ⟨S131072, .i32⟩) main_call2_v3) (broadcastInDim S131072 ![] bcast_S_S131072),
    TRef.binary (TRef.of (T := ⟨S131072, .i32⟩) main_v10) (TRef.of (T := ⟨S131072, .i32⟩) main_call2_v3) (TRef.of (T := ⟨S131072, .i32⟩) main_call2_v4) Host.remsi,
    TRef.nullary (TRef.of (T := ⟨S_, .i32⟩) main_call2_c_1) (constantI S_ 32 0#32),
    TRef.unary (TRef.of (T := ⟨S_, .i32⟩) main_call2_c_1) (TRef.of (T := ⟨S131072, .i32⟩) main_call2_v5) (broadcastInDim S131072 ![] bcast_S_S131072),
    TRef.binary (TRef.of (T := ⟨S131072, .i32⟩) main_call2_v4) (TRef.of (T := ⟨S131072, .i32⟩) main_call2_v5) (TRef.of (T := ⟨S131072, .i1⟩) main_call2_v6) (cmpi .ne),
    TRef.nullary (TRef.of (T := ⟨S_, .i32⟩) main_call2_c_2) (constantI S_ 32 0#32),
    TRef.unary (TRef.of (T := ⟨S_, .i32⟩) main_call2_c_2) (TRef.of (T := ⟨S131072, .i32⟩) main_call2_v7) (broadcastInDim S131072 ![] bcast_S_S131072),
    TRef.binary (TRef.of (T := ⟨S131072, .i32⟩) main_call2_v4) (TRef.of (T := ⟨S131072, .i32⟩) main_call2_v7) (TRef.of (T := ⟨S131072, .i1⟩) main_call2_v8) (cmpi .slt),
    TRef.nullary (TRef.of (T := ⟨S_, .i32⟩) main_call2_c_3) (constantI S_ 32 0#32),
    TRef.binary (TRef.of (T := ⟨S_, .i32⟩) main_call2_v2) (TRef.of (T := ⟨S_, .i32⟩) main_call2_c_3) (TRef.of (T := ⟨S_, .i1⟩) main_call2_v9) (cmpi .slt),
    TRef.unary (TRef.of (T := ⟨S_, .i1⟩) main_call2_v9) (TRef.of (T := ⟨S131072, .i1⟩) main_call2_v10) (broadcastInDim S131072 ![] bcast_S_S131072),
    TRef.binary (TRef.of (T := ⟨S131072, .i1⟩) main_call2_v8) (TRef.of (T := ⟨S131072, .i1⟩) main_call2_v10) (TRef.of (T := ⟨S131072, .i1⟩) main_call2_v11) (cmpi .ne),
    TRef.binary (TRef.of (T := ⟨S131072, .i1⟩) main_call2_v11) (TRef.of (T := ⟨S131072, .i1⟩) main_call2_v6) (TRef.of (T := ⟨S131072, .i1⟩) main_call2_v12) andi,
    TRef.unary (TRef.of (T := ⟨S_, .i32⟩) main_call2_v2) (TRef.of (T := ⟨S131072, .i32⟩) main_call2_v13) (broadcastInDim S131072 ![] bcast_S_S131072),
    TRef.binary (TRef.of (T := ⟨S131072, .i32⟩) main_call2_v4) (TRef.of (T := ⟨S131072, .i32⟩) main_call2_v13) (TRef.of (T := ⟨S131072, .i32⟩) main_call2_v14) addi,
    TRef.ternary (TRef.of (T := ⟨S131072, .i1⟩) main_call2_v12) (TRef.of (T := ⟨S131072, .i32⟩) main_call2_v14) (TRef.of (T := ⟨S131072, .i32⟩) main_call2_v4) (TRef.of (T := ⟨S131072, .i32⟩) main_v17) select,
    nullary main_c_3 (constantI S_ 32 5#32),
    unary main_c_3 main_v18 (broadcastInDim S131072 ![] bcast_S_S131072 : (⟨S_, .i32⟩ : BufTy).Contents (Elt F) → (⟨S131072, .i32⟩ : BufTy).Contents (Elt F)),
    binary main_v17 main_v18 main_v19 (Host.shrui : (⟨S131072, .i32⟩ : BufTy).Contents (Elt F) → (⟨S131072, .i32⟩ : BufTy).Contents (Elt F) → (⟨S131072, .i32⟩ : BufTy).Contents (Elt F)),
    nullary main_c_4 (constantI S_ 32 31#32),
    unary main_c_4 main_v20 (broadcastInDim S131072 ![] bcast_S_S131072 : (⟨S_, .i32⟩ : BufTy).Contents (Elt F) → (⟨S131072, .i32⟩ : BufTy).Contents (Elt F)),
    binary main_v17 main_v20 main_v21 (andi : (⟨S131072, .i32⟩ : BufTy).Contents (Elt F) → (⟨S131072, .i32⟩ : BufTy).Contents (Elt F) → (⟨S131072, .i32⟩ : BufTy).Contents (Elt F)),
    nullary main_c_5 (constantI S_ 32 1#32),
    unary main_c_5 main_v22 (broadcastInDim S131072 ![] bcast_S_S131072 : (⟨S_, .i32⟩ : BufTy).Contents (Elt F) → (⟨S131072, .i32⟩ : BufTy).Contents (Elt F)),
    binary main_v22 main_v21 main_v23 (Host.shli : (⟨S131072, .i32⟩ : BufTy).Contents (Elt F) → (⟨S131072, .i32⟩ : BufTy).Contents (Elt F) → (⟨S131072, .i32⟩ : BufTy).Contents (Elt F)),
    nullary main_c_6 (constantI S_ 32 0#32),
    TRef.unary (TRef.of (T := ⟨S_, .i32⟩) main_c_6) (TRef.of (T := ⟨S131072, .i32⟩) main_call3_v0) (broadcastInDim S131072 ![] bcast_S_S131072),
    TRef.ternary (TRef.of (T := ⟨S131072, .i1⟩) main_v15) (TRef.of (T := ⟨S131072, .i32⟩) main_v23) (TRef.of (T := ⟨S131072, .i32⟩) main_call3_v0) (TRef.of (T := ⟨S131072, .i32⟩) main_v24) select,
    nullary main_c_7 (constantI S_ 32 0#32),
    unary main_c_7 main_v25 (broadcastInDim S20000x640 ![] bcast_S_S20000x640 : (⟨S_, .i32⟩ : BufTy).Contents (Elt F) → (⟨S20000x640, .i32⟩ : BufTy).Contents (Elt F)),
    nullary main_c_8 (constantI S_ 32 0#32),
    unary main_c_8 main_v26 (broadcastInDim S131072 ![] bcast_S_S131072 : (⟨S_, .i32⟩ : BufTy).Contents (Elt F) → (⟨S131072, .i32⟩ : BufTy).Contents (Elt F)),
    binary main_v16 main_v26 main_v27 (cmpi .slt : (⟨S131072, .i32⟩ : BufTy).Contents (Elt F) → (⟨S131072, .i32⟩ : BufTy).Contents (Elt F) → (⟨S131072, .i1⟩ : BufTy).Contents (Elt F)),
    nullary main_c_9 (constantI S_ 32 20000#32),
    unary main_c_9 main_v28 (broadcastInDim S131072 ![] bcast_S_S131072 : (⟨S_, .i32⟩ : BufTy).Contents (Elt F) → (⟨S131072, .i32⟩ : BufTy).Contents (Elt F)),
    binary main_v16 main_v28 main_v29 (addi : (⟨S131072, .i32⟩ : BufTy).Contents (Elt F) → (⟨S131072, .i32⟩ : BufTy).Contents (Elt F) → (⟨S131072, .i32⟩ : BufTy).Contents (Elt F)),
    ternary main_v27 main_v29 main_v16 main_v30 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    nullary main_c_10 (constantI S_ 32 0#32),
    unary main_c_10 main_v31 (broadcastInDim S131072 ![] bcast_S_S131072 : (⟨S_, .i32⟩ : BufTy).Contents (Elt F) → (⟨S131072, .i32⟩ : BufTy).Contents (Elt F)),
    binary main_v19 main_v31 main_v32 (cmpi .slt : (⟨S131072, .i32⟩ : BufTy).Contents (Elt F) → (⟨S131072, .i32⟩ : BufTy).Contents (Elt F) → (⟨S131072, .i1⟩ : BufTy).Contents (Elt F)),
    nullary main_c_11 (constantI S_ 32 640#32),
    unary main_c_11 main_v33 (broadcastInDim S131072 ![] bcast_S_S131072 : (⟨S_, .i32⟩ : BufTy).Contents (Elt F) → (⟨S131072, .i32⟩ : BufTy).Contents (Elt F)),
    binary main_v19 main_v33 main_v34 (addi : (⟨S131072, .i32⟩ : BufTy).Contents (Elt F) → (⟨S131072, .i32⟩ : BufTy).Contents (Elt F) → (⟨S131072, .i32⟩ : BufTy).Contents (Elt F)),
    ternary main_v32 main_v34 main_v19 main_v35 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v30 main_v36 (broadcastInDim S131072x1 ![0] bcast_S131072_S131072x1_0 : (⟨S131072, .i32⟩ : BufTy).Contents (Elt F) → (⟨S131072x1, .i32⟩ : BufTy).Contents (Elt F)),
    unary main_v35 main_v37 (broadcastInDim S131072x1 ![0] bcast_S131072_S131072x1_0 : (⟨S131072, .i32⟩ : BufTy).Contents (Elt F) → (⟨S131072x1, .i32⟩ : BufTy).Contents (Elt F)),
    binary main_v36 main_v37 main_v38 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    ternary main_v25 main_v38 main_v24 main_v39 ((fun x i u => Host.scatter scatter_S20000x640_S131072x2_S131072_n_01_01_1 IntOp.addi x i u) : (⟨S20000x640, .i32⟩ : BufTy).Contents (Elt F) → (⟨S131072x2, .i32⟩ : BufTy).Contents (Elt F) → (⟨S131072, .i32⟩ : BufTy).Contents (Elt F) → (⟨S20000x640, .i32⟩ : BufTy).Contents (Elt F)),
    reshape main_arg0 main_v40 (rfl : (.i32 : EltTy) = .i32) shapeCasts_S4x2048_S8192,
    reshape main_v39 main_v41 (rfl : (.i32 : EltTy) = .i32) shapeCasts_S20000x640_S12800000 ]

/-- The host operation between the two calls. -/
abbrev opsB : List (HloOp τ sig (Elt F)) :=
  [ reshape main_v42 main_v43 (rfl : (.f32 : EltTy) = .f32) shapeCasts_S16777216_S4x2048x2048 ]

/-- The host operations after the TensorCore call. -/
abbrev opsC : List (HloOp τ sig (Elt F)) :=
  [ reshape main_v44_0 main_v45 (rfl : (.f32 : EltTy) = .f32) shapeCasts_S1x1_S_,
    reshape main_v44_1 main_v46 (rfl : (.f32 : EltTy) = .f32) shapeCasts_S1x1_S_,
    nullary main_cst (constant S_ .f32 0x322BCC77#32),
    binary main_v46 main_cst main_v47 (addf : (⟨S_, .f32⟩ : BufTy).Contents (Elt F) → (⟨S_, .f32⟩ : BufTy).Contents (Elt F) → (⟨S_, .f32⟩ : BufTy).Contents (Elt F)),
    binary main_v45 main_v47 main_v48 (Host.divf : (⟨S_, .f32⟩ : BufTy).Contents (Elt F) → (⟨S_, .f32⟩ : BufTy).Contents (Elt F) → (⟨S_, .f32⟩ : BufTy).Contents (Elt F)) ]

set_option maxRecDepth 65536 in
set_option maxHeartbeats 4000000 in
/-- @main, its host operations as lists. -/
theorem main_eq (d : Dev nD) : main (F := F) d
    = (seq opsA >>= fun _ => sc.run d 0 >>= fun _ => seq opsB >>= fun _ =>
        Prog.lift (.customCall (SparseCore.inner (Pipeline.entry 0)) ()) >>= fun _ => seq opsC) := rfl

theorem opsA_sub : (opsA (F := F)).Forall fun op => op.bufs ⊆ tcRefs τ sig := by
  simp only [opsA, List.Forall, nullary_bufs_sub, unary_bufs_sub, binary_bufs_sub, ternary_bufs_sub, reshape_bufs_sub, TRef.nullary, TRef.unary, TRef.binary, TRef.ternary, and_self]
theorem opsB_sub : (opsB (F := F)).Forall fun op => op.bufs ⊆ tcRefs τ sig := by
  simp only [opsB, List.Forall, reshape_bufs_sub]
theorem opsC_sub : (opsC (F := F)).Forall fun op => op.bufs ⊆ tcRefs τ sig := by
  simp only [opsC, List.Forall, nullary_bufs_sub, unary_bufs_sub, binary_bufs_sub, reshape_bufs_sub, and_self]

end Cert.Proof.Run

end
-- ==== Proof.TileA.lean ====
/-
  The first loop of the SparseCore kernel's body on a tile: every id of the tile's batch, in vector memory, is split into
  the word it names in a bitmap row (`id >> 5`) and the bit it names in that word (`id & 31`).
-/
module

public import proofs.«01_k».proof.Proof.Setup

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "bmW" => (Memref.whole Cert.KernelIdeal.main_v41_scv : Memref Cert.KernelIdeal.sig Kind.scVector Space.hbm Cert.KernelIdeal.S12800000 EltTy.i32)
local notation "idW" => (Memref.whole Cert.KernelIdeal.main_v40_scv : Memref Cert.KernelIdeal.sig Kind.scVector Space.hbm Cert.KernelIdeal.S8192 EltTy.i32)
local notation "outW" => (Memref.whole Cert.KernelIdeal.main_v42_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S272 EltTy.i32)
local notation "s1W" => (Memref.whole Cert.KernelIdeal.cc0_scratch1 : Memref Cert.KernelIdeal.sig Kind.scVector Space.vmem Cert.KernelIdeal.S2048 EltTy.i32)
local notation "s2W" => (Memref.whole Cert.KernelIdeal.cc0_scratch2 : Memref Cert.KernelIdeal.sig Kind.scVector Space.vmem Cert.KernelIdeal.S2048 EltTy.i32)
local notation "s3W" => (Memref.whole Cert.KernelIdeal.cc0_scratch3 : Memref Cert.KernelIdeal.sig Kind.scVector Space.vmem Cert.KernelIdeal.S640 EltTy.i32)
local notation "s4W" => (Memref.whole Cert.KernelIdeal.cc0_scratch4 : Memref Cert.KernelIdeal.sig Kind.scVector Space.vmem Cert.KernelIdeal.S2048 EltTy.f32)

abbrev cV (L : grid0.Coords) : Fin τ.nSC := (L 0).castLE hcore0
abbrev jV (L : grid0.Coords) : Fin τ.nSub := (L 1).castLE hsub0
/-- The thread of the tile with coordinates `L`. -/
abbrev thr (d : Dev nD) (L : grid0.Coords) : Thread nD τ := V d (cV L) (jV L)

/-- A store through a unit-stride rectangle of a whole buffer, element by element: its payload inside the rectangle, the
    buffer's prior contents outside. -/
theorem writes_unit_apply {κ : Kind} {Val : EltTy → Type} (b : Ref sig κ) (f : b.ty.Contents Val) {off off' size : Fin b.ty.shape.rank → ℕ}
    (inb : ∀ a, off a + size a ≤ b.ty.shape.size a) (w : (Rect.unit off size inb).shape.Idx → Val b.ty.elt) (x : b.ty.shape.Idx) (heq : off = off') :
    (View.whole b).writes Val f [⟨Rect.unit off size inb, w⟩] x
      = if h : ∀ a, off' a ≤ (x a).val ∧ (x a).val < off' a + size a then
          w (Rect.unitLocal (s := b.ty.shape) (off := off') (size := size) x h)
        else f x :=
  View.read_writes_cons_unit (View.whole b) f inb w [] x heq

/-- A unit-stride rectangle's element at `x`'s position within it is `x`. -/
theorem unit_idx_unitLocal {s : Shape} {off off' size : Fin s.rank → ℕ} (inb : ∀ a, off a + size a ≤ s.size a) (x : s.Idx) (heq : off = off')
    (h : ∀ a, off' a ≤ (x a).val ∧ (x a).val < off' a + size a) :
    (Rect.unit off size inb).toLoadRect.idx (Rect.unitLocal (s := s) (off := off') (size := size) x h) = x := by
  subst heq
  funext a; apply Fin.ext
  rw [LoadRect.idx_apply]
  show off a + 1 * ((x a).val - off a) = (x a).val
  have := h a; omega

/-- Before trip `k` of the first loop: the ids `g` of the batch with the first `16 k` split into word and bit. -/
def inv1 (d : Dev nD) (L : grid0.Coords) (g : S2048.Idx → BitVec 32) (k : ℕ) (_ : BitVec 32) : sProp 𝕄 :=
  iprop(∃ (f1 : S2048.Idx → BitVec 32) (f2 : S2048.Idx → BitVec 32),
    ⌜∀ x : S2048.Idx, f1 x = if (x 0).val < 16 * k then IntOp.shrui .vector (g x) 5#32 else g x⌝
    ∗ ⌜∀ x : S2048.Idx, (x 0).val < 16 * k → f2 x = IntOp.andi (g x) 31#32⌝
    ∗ ((s1W).view.loc (thr d L) ↦{fullShare} f1)
    ∗ ((s2W).view.loc (thr d L) ↦{fullShare} f2))

theorem trip1 (d : Dev nD) (L : grid0.Coords) (g : S2048.Idx → BitVec 32) (k : Fin k0_t1_loop.trips) (a : BitVec 32) :
    inv1 (F := F) d L g k.val a
      ⊢ wp frame (wpE (defs₀ (F := F)) 𝒱₀ (thr d L) none) Set.univ
          (k0_t1_body L bmW (Memref.isWhole_whole _) idW (Memref.isWhole_whole _) outW (Memref.isWhole_whole _)
            s0W (Memref.isWhole_whole _) s1W (Memref.isWhole_whole _) s2W (Memref.isWhole_whole _) s3W (Memref.isWhole_whole _) s4W (Memref.isWhole_whole _)
            cc0_scoped0 cc0_scoped1 cc0_scoped2 cc0_scoped3 k a)
          fun a' => inv1 (F := F) d L g (k.val + 1) a' := by
  unfold inv1 k0_t1_body
  iintro ⟨%f1, %f2, %h1, %h2, H1, H2⟩
  sl_exec
  sl_step
  iexists _, _
  isplitr; rotate_left
  isplitr; rotate_left
  isplitl [H1]; · iexact H1
  iexact H2
  · ipureintro
    intro x
    refine (writes_unit_apply (Val := Elt F) cc0_scratch1 f1 _ _ x (k0_off3_eq k)).trans ?_
    by_cases h : ∀ a, (![16 * k.val] : Fin 1 → ℕ) a ≤ (x a).val ∧ (x a).val < (![16 * k.val] : Fin 1 → ℕ) a + S16.size a
    · refine (dif_pos h).trans ?_
      show IntOp.shrui .vector (f1 ((Rect.unit (s := S2048) (k0_off3 k) S16.size _).toLoadRect.idx (Rect.unitLocal (s := S2048) x h))) 5#32 = _
      rw [unit_idx_unitLocal _ x (k0_off3_eq k) h, h1]
      have h0 : 16 * k.val ≤ (x 0).val ∧ (x 0).val < 16 * k.val + 16 := h 0
      rw [if_neg (by omega), if_pos (by omega)]
    · refine (dif_neg h).trans ?_
      rw [h1]
      have h0 : ¬ (16 * k.val ≤ (x 0).val ∧ (x 0).val < 16 * k.val + 16) := fun h0 => h fun a => by
        obtain rfl : a = 0 := Subsingleton.elim _ _
        exact h0
      by_cases hk : (x 0).val < 16 * k.val
      · rw [if_pos hk, if_pos (by omega)]
      · rw [if_neg hk, if_neg (by omega)]
  · ipureintro
    intro x hx
    refine (writes_unit_apply (Val := Elt F) cc0_scratch2 f2 _ _ x (k0_off3_eq k)).trans ?_
    by_cases h : ∀ a, (![16 * k.val] : Fin 1 → ℕ) a ≤ (x a).val ∧ (x a).val < (![16 * k.val] : Fin 1 → ℕ) a + S16.size a
    · refine (dif_pos h).trans ?_
      show IntOp.andi (f1 ((Rect.unit (s := S2048) (k0_off3 k) S16.size _).toLoadRect.idx (Rect.unitLocal (s := S2048) x h))) 31#32 = _
      rw [unit_idx_unitLocal _ x (k0_off3_eq k) h, h1, if_neg]
      have := (h 0).1; simpa using this
    · refine (dif_neg h).trans ?_
      refine h2 x ?_
      by_contra hk
      refine h fun a => ?_
      obtain rfl : a = 0 := Subsingleton.elim _ _
      show 16 * k.val ≤ (x 0).val ∧ (x 0).val < 16 * k.val + 16
      omega

end Cert.Proof.Run

end
-- ==== Proof.TileB.lean ====
/-
  The innermost loop of the SparseCore kernel's body on a tile: one row of the mask, sixteen columns a trip, each the bit
  that the column's id names in the bitmap row held in vector memory.
-/
module

public import proofs.«01_k».proof.Proof.TileA

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "bmW" => (Memref.whole Cert.KernelIdeal.main_v41_scv : Memref Cert.KernelIdeal.sig Kind.scVector Space.hbm Cert.KernelIdeal.S12800000 EltTy.i32)
local notation "idW" => (Memref.whole Cert.KernelIdeal.main_v40_scv : Memref Cert.KernelIdeal.sig Kind.scVector Space.hbm Cert.KernelIdeal.S8192 EltTy.i32)
local notation "outW" => (Memref.whole Cert.KernelIdeal.main_v42_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S272 EltTy.i32)
local notation "s1W" => (Memref.whole Cert.KernelIdeal.cc0_scratch1 : Memref Cert.KernelIdeal.sig Kind.scVector Space.vmem Cert.KernelIdeal.S2048 EltTy.i32)
local notation "s2W" => (Memref.whole Cert.KernelIdeal.cc0_scratch2 : Memref Cert.KernelIdeal.sig Kind.scVector Space.vmem Cert.KernelIdeal.S2048 EltTy.i32)
local notation "s3W" => (Memref.whole Cert.KernelIdeal.cc0_scratch3 : Memref Cert.KernelIdeal.sig Kind.scVector Space.vmem Cert.KernelIdeal.S640 EltTy.i32)
local notation "s4W" => (Memref.whole Cert.KernelIdeal.cc0_scratch4 : Memref Cert.KernelIdeal.sig Kind.scVector Space.vmem Cert.KernelIdeal.S2048 EltTy.f32)

/-- The word of a bitmap row held in vector memory that an index names (modulo the row's length, so that it is total). -/
def rowAt (f3 : S640.Idx → BitVec 32) (n : ℕ) : BitVec 32 := f3 fun | 0 => ⟨n % 640, Nat.mod_lt _ (by decide)⟩

/-- Before trip `k` of the innermost loop: the first `16 k` columns of the row are in the row buffer. -/
def inv3 (d : Dev nD) (L : grid0.Coords) (f1 f2 : S2048.Idx → BitVec 32) (f3 : S640.Idx → BitVec 32) (k : ℕ) (_ : BitVec 32) : sProp 𝕄 :=
  iprop(((s1W).view.loc (thr d L) ↦{fullShare} f1)
    ∗ ((s2W).view.loc (thr d L) ↦{fullShare} f2)
    ∗ ((s3W).view.loc (thr d L) ↦{fullShare} f3)
    ∗ ∃ f4 : S2048.Idx → F .f32,
      ⌜∀ x : S2048.Idx, (x 0).val < 16 * k → f4 x = bitF (rowAt f3 (f1 x).toNat) (f2 x)⌝
      ∗ ((s4W).view.loc (thr d L) ↦{fullShare} f4))

theorem trip3 (d : Dev nD) (L : grid0.Coords) (f1 f2 : S2048.Idx → BitVec 32) (f3 : S640.Idx → BitVec 32) (hf1 : ∀ x, (f1 x).toNat < 640)
    (k : Fin k0_t3_loop.trips) (a : BitVec 32) :
    inv3 (F := F) d L f1 f2 f3 k.val a
      ⊢ wp frame (wpE (defs₀ (F := F)) 𝒱₀ (thr d L) none) Set.univ
          (k0_t3_body L bmW (Memref.isWhole_whole _) idW (Memref.isWhole_whole _) outW (Memref.isWhole_whole _)
            s0W (Memref.isWhole_whole _) s1W (Memref.isWhole_whole _) s2W (Memref.isWhole_whole _) s3W (Memref.isWhole_whole _) s4W (Memref.isWhole_whole _)
            cc0_scoped0 cc0_scoped1 cc0_scoped2 cc0_scoped3 k a)
          fun a' => inv3 (F := F) d L f1 f2 f3 (k.val + 1) a' := by
  unfold inv3 k0_t3_body
  iintro ⟨H1, H2, H3, %f4, %h4, H4⟩
  have hchk : k0_chk2 ((s1W).view.readAt (Elt F) (Rect.unit (s := S2048) (k0_off6 k) S16.size (k0_off6_inb k)).toLoadRect f1) := by
    intro a x
    obtain rfl : a = 0 := Subsingleton.elim _ _
    exact hf1 _
  sl_exec
  ihave H3' := (Entails.of_eq (show ((s3W).view.loc (thr d L) ↦{fullShare} f3 : sProp 𝕄)
    = (((s3W).access (.whole S640)).loc (thr d L) ↦{fullShare} f3 : sProp 𝕄) from rfl)) $$ H3
  iapply (SparseCore.wp_vectorLoadIdx 𝒱₀ (thr d L) none Set.univ (base := s3W) (S := Finset.univ) (q := fullShare) (Finset.subset_univ _)) $$ H3'
  iintro H3'
  ihave H3 := (Entails.of_eq (show (((s3W).access (.whole S640)).loc (thr d L) ↦{fullShare} f3 : sProp 𝕄)
    = ((s3W).view.loc (thr d L) ↦{fullShare} f3 : sProp 𝕄) from rfl)) $$ H3'
  sl_exec
  sl_step
  isplitl [H1]; · iexact H1
  isplitl [H2]; · iexact H2
  isplitl [H3]; · iexact H3
  iexists _
  isplitr; rotate_left
  · iexact H4
  · ipureintro
    intro x hx
    refine (writes_unit_apply (Val := Elt F) cc0_scratch4 f4 _ _ x (k0_off7_eq k)).trans ?_
    by_cases h : ∀ a, (![16 * k.val] : Fin 1 → ℕ) a ≤ (x a).val ∧ (x a).val < (![16 * k.val] : Fin 1 → ℕ) a + S16.size a
    · refine (dif_pos h).trans ?_
      have e : (Rect.unit (s := S2048) (k0_off6 k) S16.size (k0_off6_inb k)).toLoadRect.idx (Rect.unitLocal (s := S2048) x h) = x :=
        unit_idx_unitLocal _ x (k0_off6_eq k) h
      show bitF (f3 _) (f2 ((Rect.unit (s := S2048) (k0_off6 k) S16.size (k0_off6_inb k)).toLoadRect.idx (Rect.unitLocal (s := S2048) x h))) = _
      rw [e]
      congr 1
      unfold rowAt
      congr 1
      refine funext fun (a : Fin 1) => ?_
      obtain rfl : a = 0 := Subsingleton.elim _ _
      apply Fin.ext
      show 0 + 1 * (f1 ((Rect.unit (s := S2048) (k0_off6 k) S16.size (k0_off6_inb k)).toLoadRect.idx (Rect.unitLocal (s := S2048) x h))).toNat = (f1 x).toNat % 640
      rw [e, Nat.mod_eq_of_lt (hf1 x)]; omega
    · refine (dif_neg h).trans ?_
      refine h4 x ?_
      by_contra hk
      refine h fun a => ?_
      obtain rfl : a = 0 := Subsingleton.elim _ _
      show 16 * k.val ≤ (x 0).val ∧ (x 0).val < 16 * k.val + 16
      omega

end Cert.Proof.Run

end
-- ==== Proof.TileC.lean ====
/-
  One trip of the SparseCore kernel's row loop on a tile: the bitmap row of the trip's id is fetched, the row of the mask
  is computed from it, and the row is written out to its place in the mask.
-/
module

public import proofs.«01_k».proof.Proof.TileB

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "bmW" => (Memref.whole Cert.KernelIdeal.main_v41_scv : Memref Cert.KernelIdeal.sig Kind.scVector Space.hbm Cert.KernelIdeal.S12800000 EltTy.i32)
local notation "idW" => (Memref.whole Cert.KernelIdeal.main_v40_scv : Memref Cert.KernelIdeal.sig Kind.scVector Space.hbm Cert.KernelIdeal.S8192 EltTy.i32)
local notation "outW" => (Memref.whole Cert.KernelIdeal.main_v42_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S272 EltTy.i32)
local notation "s1W" => (Memref.whole Cert.KernelIdeal.cc0_scratch1 : Memref Cert.KernelIdeal.sig Kind.scVector Space.vmem Cert.KernelIdeal.S2048 EltTy.i32)
local notation "s2W" => (Memref.whole Cert.KernelIdeal.cc0_scratch2 : Memref Cert.KernelIdeal.sig Kind.scVector Space.vmem Cert.KernelIdeal.S2048 EltTy.i32)
local notation "s3W" => (Memref.whole Cert.KernelIdeal.cc0_scratch3 : Memref Cert.KernelIdeal.sig Kind.scVector Space.vmem Cert.KernelIdeal.S640 EltTy.i32)
local notation "s4W" => (Memref.whole Cert.KernelIdeal.cc0_scratch4 : Memref Cert.KernelIdeal.sig Kind.scVector Space.vmem Cert.KernelIdeal.S2048 EltTy.f32)

/-- The first row of the mask that the tile with coordinates `L` writes. -/
abbrev rowBase (L : grid0.Coords) : ℕ := (2 * (L 1).val + (L 0).val) * 256

/-- The elements of the tile's part of the mask already written before row `k`, and those still to write. -/
def doneSet (L : grid0.Coords) (k : ℕ) : Finset S16777216.Idx :=
  Finset.univ.filter fun x => rowBase L * 2048 ≤ (x 0).val ∧ (x 0).val < (rowBase L + k) * 2048
def todoSet (L : grid0.Coords) (k : ℕ) : Finset S16777216.Idx :=
  Finset.univ.filter fun x => (rowBase L + k) * 2048 ≤ (x 0).val ∧ (x 0).val < (rowBase L + 256) * 2048

theorem mem_doneSet {L : grid0.Coords} {k : ℕ} {x : S16777216.Idx} :
    x ∈ doneSet L k ↔ rowBase L * 2048 ≤ (x 0).val ∧ (x 0).val < (rowBase L + k) * 2048 := by simp [doneSet]
theorem mem_todoSet {L : grid0.Coords} {k : ℕ} {x : S16777216.Idx} :
    x ∈ todoSet L k ↔ (rowBase L + k) * 2048 ≤ (x 0).val ∧ (x 0).val < (rowBase L + 256) * 2048 := by simp [todoSet]

/-- Row `k` of the tile's part of the mask, as the kernel slices it. -/
abbrev winM (L : grid0.Coords) (k : Fin k0_t2_loop.trips) : Memref sig .scVector .hbm S2048 .f32 :=
  (outW).slice (Rect.unit (s := S16777216) (k0_off8 L k) S2048.size (k0_off8_inb L k)) (fun _ => rfl)

theorem mem_winSet {L : grid0.Coords} {k : Fin k0_t2_loop.trips} {x : S16777216.Idx} :
    x ∈ (winM L k).view.set ↔ (rowBase L + k.val) * 2048 ≤ (x 0).val ∧ (x 0).val < (rowBase L + k.val + 1) * 2048 := by
  show x ∈ ((View.whole main_v42_scv).slice (Rect.unit (s := S16777216) (k0_off8 L k) S2048.size (k0_off8_inb L k))).set ↔ _
  rw [View.set_slice_whole]
  refine Rect.mem_set_unit.trans ?_
  rw [k0_off8_eq]
  constructor
  · intro h
    have h0 : 1048576 * (L 1).val + 524288 * (L 0).val + 2048 * k.val ≤ (x 0).val ∧ (x 0).val < 1048576 * (L 1).val + 524288 * (L 0).val + 2048 * k.val + 2048 := h 0
    unfold rowBase; omega
  · intro h a
    obtain rfl : a = (0 : Fin 1) := Subsingleton.elim (α := Fin 1) _ _
    show 1048576 * (L 1).val + 524288 * (L 0).val + 2048 * k.val ≤ (x 0).val ∧ (x 0).val < 1048576 * (L 1).val + 524288 * (L 0).val + 2048 * k.val + 2048
    unfold rowBase at h; omega

theorem todo_split (L : grid0.Coords) (k : Fin k0_t2_loop.trips) : todoSet L k.val = (winM L k).view.set ∪ todoSet L (k.val + 1) := by
  have hk : k.val < 256 := k.isLt
  ext x
  rw [Finset.mem_union, mem_todoSet, mem_todoSet, mem_winSet]
  omega
theorem todo_disjoint (L : grid0.Coords) (k : Fin k0_t2_loop.trips) : Disjoint (winM L k).view.set (todoSet L (k.val + 1)) :=
  Finset.disjoint_left.mpr fun x h1 h2 => by rw [mem_winSet] at h1; rw [mem_todoSet] at h2; omega
theorem done_split (L : grid0.Coords) (k : Fin k0_t2_loop.trips) : doneSet L (k.val + 1) = doneSet L k.val ∪ (winM L k).view.set := by
  ext x
  rw [Finset.mem_union, mem_doneSet, mem_doneSet, mem_winSet]
  omega
theorem done_disjoint (L : grid0.Coords) (k : Fin k0_t2_loop.trips) : Disjoint (doneSet L k.val) (winM L k).view.set :=
  Finset.disjoint_left.mpr fun x h1 h2 => by rw [mem_doneSet] at h1; rw [mem_winSet] at h2; omega

theorem off5_eq {v : BitVec 32} (hv : v.toNat < 20000) : k0_off5 v = ![v.toNat * 640] := by
  show ![(v * 640#32).toNat] = _
  rw [BitVec.toNat_mul, Nat.mod_eq_of_lt (by simp only [BitVec.toNat_ofNat]; omega)]
  rfl

/-- The word the kernel extracts from the sixteen ids it loads at row `k` is the row's id. -/
theorem row_id (L : grid0.Coords) (ids : S8192.Idx → BitVec 32) (f0 : S272.Idx → BitVec 32)
    (hf0 : ∀ x : S272.Idx, (x 0).val < 256 → f0 x = idAt ids (rowBase L + (x 0).val)) (k : Fin k0_t2_loop.trips) :
    extractAt ![0] (k0_pay1 (F := F) ((s0W).view.readAt (Elt F) (Rect.unit (s := S272) (k0_off4 k) S16.size (k0_off4_inb k)).toLoadRect f0)) inpos_S1_p0
      = idAt ids (rowBase L + k.val) := by
  have hk : k.val < 256 := k.isLt
  show f0 ((Rect.unit (s := S272) (k0_off4 k) S16.size (k0_off4_inb k)).toLoadRect.idx _) = _
  rw [hf0, LoadRect.idx_apply]
  · congr 1
    show rowBase L + (k0_off4 k 0 + 1 * (0 + 0)) = _
    rw [k0_off4_eq]; simp
  · rw [LoadRect.idx_apply]
    show k0_off4 k 0 + 1 * (0 + 0) < 256
    rw [k0_off4_eq]; simpa using hk

/-- A word of the bitmap row fetched for id `v` is the bitmap's word at `640 v` and its own place. -/
theorem row_word (bm : S12800000.Idx → BitVec 32) (v : BitVec 32) (hv : v.toNat < 20000) (hc : k0_chk1 v) (n : ℕ) (hn : n < 640) :
    rowAt (((bmW).slice (Rect.unit (s := S12800000) (k0_off5 v) S640.size (k0_off5_inb v hc)) (fun _ => rfl)).view.read (Elt F) bm) n
      = bmAt bm (v.toNat * 640 + n) := by
  show bm ((Rect.unit (s := S12800000) (k0_off5 v) S640.size (k0_off5_inb v hc)).emb _) = bm _
  congr 1
  refine funext fun (a : Fin 1) => ?_
  obtain rfl : a = 0 := Subsingleton.elim _ _
  apply Fin.ext
  show k0_off5 v 0 + 1 * (n % 640) = (v.toNat * 640 + n) % 12800000
  rw [off5_eq hv, Nat.mod_eq_of_lt hn, Nat.mod_eq_of_lt (by omega)]
  simp

/-- A slice of a whole buffer written whole holds, at each of its elements, what was written there. -/
theorem slice_write_apply {κ : Kind} {Val : EltTy → Type} (b : Ref sig κ) (r : Rect b.ty.shape) (f : b.ty.Contents Val)
    (w : r.shape.Idx → Val b.ty.elt) (y : r.shape.Idx) :
    ((View.whole b).slice r).writes Val f [⟨Rect.whole r.shape, w⟩] (((View.whole b).slice r).emb y) = w y :=
  ((cast_eq _ _).symm.trans (View.read_apply _ _).symm).trans (congrFun (View.read_writes_whole ((View.whole b).slice r) f w) y)

/-- Row `k`'s window of the mask, once the row buffer is copied into it, holds the mask's value there. -/
theorem win_val (L : grid0.Coords) (bm : S12800000.Idx → BitVec 32) (ids : S8192.Idx → BitVec 32) (f1 f2 : S2048.Idx → BitVec 32)
    (hf1 : ∀ x : S2048.Idx, f1 x = IntOp.shrui .vector (idAt ids (rowBase L / 2048 * 2048 + (x 0).val)) 5#32)
    (hf2 : ∀ x : S2048.Idx, f2 x = IntOp.andi (idAt ids (rowBase L / 2048 * 2048 + (x 0).val)) 31#32)
    (k : Fin k0_t2_loop.trips) (fo : S16777216.Idx → F .f32) (f4 : S2048.Idx → F .f32)
    (h4 : ∀ x : S2048.Idx, f4 x = bitF (bmAt bm ((idAt ids (rowBase L + k.val)).toNat * 640 + (f1 x).toNat)) (f2 x))
    (x : S16777216.Idx) (hx : x ∈ (winM L k).view.set) :
    (winM L k).view.writes (Elt F) fo [⟨Rect.whole S2048, f4⟩] x = gout bm ids x := by
  have hk : k.val < 256 := k.isLt
  obtain ⟨y, -, rfl⟩ := Finset.mem_map.mp hx
  have e1 : (winM L k).view.writes (Elt F) fo [⟨Rect.whole S2048, f4⟩] ((winM L k).view.emb y) = f4 y := by
    exact slice_write_apply main_v42_scv (Val := Elt F) (Rect.unit (s := S16777216) (k0_off8 L k) S2048.size (k0_off8_inb L k)) fo f4 y
  refine e1.trans ?_
  have e2 : (((winM L k).view.emb y : S16777216.Idx) 0).val = (rowBase L + k.val) * 2048 + (y 0).val := by
    show k0_off8 L k 0 + 1 * (y 0).val = _
    rw [k0_off8_eq]
    show 1048576 * (L 1).val + 524288 * (L 0).val + 2048 * k.val + 1 * (y 0).val = _
    unfold rowBase; omega
  have hy : (y 0).val < 2048 := (y 0).isLt
  show _ = goutAt bm ids ((((winM L k).view.emb y : S16777216.Idx) 0).val / 2048) ((((winM L k).view.emb y : S16777216.Idx) 0).val % 2048)
  rw [e2, show ((rowBase L + k.val) * 2048 + (y 0).val) / 2048 = rowBase L + k.val by omega,
    show ((rowBase L + k.val) * 2048 + (y 0).val) % 2048 = (y 0).val by omega]
  unfold goutAt
  rw [show (rowBase L + k.val) / 2048 = rowBase L / 2048 by unfold rowBase; omega, h4, hf1, hf2]

theorem shr5_lt {v : BitVec 32} (hv : v.toNat < 20000) : (IntOp.shrui .vector v 5#32).toNat < 640 := by
  show (v >>> (5#32).toNat).toNat < 640
  rw [BitVec.toNat_ushiftRight, Nat.shiftRight_eq_div_pow]
  show v.toNat / 2 ^ 5 < 640
  omega

/-- Before row `k`: the tile's ids, split batch and bitmap at hand, the rows before `k` of the mask written with their value. -/
def inv2 (d : Dev nD) (L : grid0.Coords) (bm : S12800000.Idx → BitVec 32) (ids : S8192.Idx → BitVec 32)
    (f0 : S272.Idx → BitVec 32) (f1 f2 : S2048.Idx → BitVec 32) (q : PosShare TreeShare) (O : CellTallies nD τ sig (HIx 1)) (W : Waits sig (HIx 1))
    (k : ℕ) (_ : BitVec 32) : sProp 𝕄 :=
  iprop(Transfers.MayWaits (thr d L) (none : HIx 1) O
    ∗ ((bmW).view.loc (thr d L) ↦{q} bm)
    ∗ ((s0W).view.loc (thr d L) ↦{fullShare} f0)
    ∗ ((s1W).view.loc (thr d L) ↦{fullShare} f1)
    ∗ ((s2W).view.loc (thr d L) ↦{fullShare} f2)
    ∗ (∃ f3, (s3W).view.loc (thr d L) ↦{fullShare} f3)
    ∗ (∃ f4, (s4W).view.loc (thr d L) ↦{fullShare} f4)
    ∗ ((outW).view.loc (thr d L) ↦[doneSet L k]{fullShare} (gout bm ids : S16777216.Idx → F .f32))
    ∗ (∃ f, (outW).view.loc (thr d L) ↦[todoSet L k]{fullShare} f)
    ∗ semVal (thr d L, SemLoc.dma cc0_scoped2.sem) 0
    ∗ semVal (thr d L, SemLoc.dma cc0_scoped3.sem) 0
    ∗ ∃ W', ⌜∀ p ∈ W', p ∈ W ∨ p.2 = none⌝ ∗ owes (thr d L) O W')

set_option maxHeartbeats 1000000 in
/-- One row of the mask: its bitmap row fetched, its 2048 bits read out, the row written. -/
theorem trip2 (d : Dev nD) (L : grid0.Coords) (bm : S12800000.Idx → BitVec 32) (ids : S8192.Idx → BitVec 32)
    (f0 : S272.Idx → BitVec 32) (f1 f2 : S2048.Idx → BitVec 32) (q : PosShare TreeShare) (O : CellTallies nD τ sig (HIx 1)) (W : Waits sig (HIx 1))
    (hids : ∀ n, (idAt ids n).toNat < 20000)
    (hf0 : ∀ x : S272.Idx, (x 0).val < 256 → f0 x = idAt ids (rowBase L + (x 0).val))
    (hf1 : ∀ x : S2048.Idx, f1 x = IntOp.shrui .vector (idAt ids (rowBase L / 2048 * 2048 + (x 0).val)) 5#32)
    (hf2 : ∀ x : S2048.Idx, f2 x = IntOp.andi (idAt ids (rowBase L / 2048 * 2048 + (x 0).val)) 31#32)
    (k : Fin k0_t2_loop.trips) (a : BitVec 32) :
    inv2 (F := F) d L bm ids f0 f1 f2 q O W k.val a
      ⊢ wp frame (wpE (defs₀ (F := F)) 𝒱₀ (thr d L) none) Set.univ
          (k0_t2_body L bmW (Memref.isWhole_whole _) idW (Memref.isWhole_whole _) outW (Memref.isWhole_whole _)
            s0W (Memref.isWhole_whole _) s1W (Memref.isWhole_whole _) s2W (Memref.isWhole_whole _) s3W (Memref.isWhole_whole _) s4W (Memref.isWhole_whole _)
            cc0_scoped0 cc0_scoped1 cc0_scoped2 cc0_scoped3 k a)
          fun a' => inv2 (F := F) d L bm ids f0 f1 f2 q O W (k.val + 1) a' := by
  unfold inv2 k0_t2_body
  iintro ⟨Hmw, Hbm, H0, H1, H2, ⟨%f3, H3⟩, ⟨%f4, H4⟩, Hdone, ⟨%fo, Htodo⟩, Hs2, Hs3, %W', %hW', HO⟩
  have hv : extractAt ![0] (k0_pay1 (F := F) ((s0W).view.readAt (Elt F) (Rect.unit (s := S272) (k0_off4 k) S16.size (k0_off4_inb k)).toLoadRect f0)) inpos_S1_p0
      = idAt ids (rowBase L + k.val) := row_id L ids f0 hf0 k
  have hchk : k0_chk1 (extractAt ![0] (k0_pay1 (F := F) ((s0W).view.readAt (Elt F) (Rect.unit (s := S272) (k0_off4 k) S16.size (k0_off4_inb k)).toLoadRect f0)) inpos_S1_p0) := by
    rw [hv]
    intro a
    obtain rfl : a = (0 : Fin 1) := Subsingleton.elim (α := Fin 1) _ _
    have := hids (rowBase L + k.val)
    rw [off5_eq this]
    show (idAt ids (rowBase L + k.val)).toNat * 640 + 640 ≤ 12800000
    omega
  have hf1' : ∀ x, (f1 x).toNat < 640 := fun x => by
    rw [hf1]; exact shr5_lt (hids _)
  rw [todo_split L k]
  ihave Htodo' := (pointsTo_union (ℓ := (outW).view.loc (thr d L)) (q := fullShare) (f := fo) (todo_disjoint L k)).1 $$ Htodo
  icases Htodo' with ⟨Hwin, Htodo⟩
  ihave Hwin' := (Entails.of_eq (show ((outW).view.loc (thr d L) ↦[(winM L k).view.set]{fullShare} fo : sProp 𝕄)
    = ((winM L k).view.loc (thr d L) ↦[(winM L k).view.set]{fullShare} fo : sProp 𝕄) from rfl)) $$ Hwin
  sl_exec (disch := exact View.amount_pos _ _ (show 0 < S640.numel by decide))
  sl_for (inv3 (F := F) d L f1 f2 (View.write (Elt F) (s3W).view f3 (trip2.sl.dma1 bm f0 k hchk) Finset.univ)) $$ [H1 H2 H3 H4]
  case region =>
    intro k3 a3
    exact trip3 d L f1 f2 _ hf1' k3 a3
  · unfold inv3
    isplitl [H1]; · iexact H1
    isplitl [H2]; · iexact H2
    isplitl [H3]; · iexact H3
    iexists f4
    isplitr; rotate_left
    · iexact H4
    · ipureintro
      intro x hx
      exact absurd hx (Nat.not_lt_zero _)
  iintro %_ HI
  unfold inv3
  icases HI with ⟨H1, H2, H3, %f4', %h4', H4⟩
  sl_exec (disch := exact View.amount_pos _ _ (show 0 < S2048.numel by decide))
  sl_step
  have h4 : ∀ x : S2048.Idx, f4' x = bitF (bmAt bm ((idAt ids (rowBase L + k.val)).toNat * 640 + (f1 x).toNat)) (f2 x) := fun x => by
    refine (h4' x ?_).trans ?_
    · have : (x 0).val < 2048 := (x 0).isLt
      have e : k0_t3_loop.trips = 128 := by decide
      show (x 0).val < 16 * k0_t3_loop.trips
      rw [e]; omega
    · refine congrArg (fun w => bitF (F := F) w (f2 x)) ?_
      refine (congrArg (fun f : S640.Idx → BitVec 32 => rowAt f (f1 x).toNat) (View.write_whole_univ (Val := Elt F) cc0_scratch3 f3 _)).trans ?_
      rw [← hv]
      exact row_word (F := F) bm _ (by rw [hv]; exact hids _) hchk _ (hf1' x)
  have hwin := fun x hx => win_val L bm ids f1 f2 hf1 hf2 k fo f4' h4 x hx
  ihave Hwin := (Entails.of_eq (pointsTo_congr hwin)) $$ Hwin'
  ihave Hd := (pointsTo_union (ℓ := (outW).view.loc (thr d L)) (q := fullShare) (f := (gout bm ids : S16777216.Idx → F .f32)) (done_disjoint L k)).2 $$ [Hdone Hwin]
  · isplitl [Hdone]; · iexact Hdone
    iexact Hwin
  rw [← done_split L k]
  isplitl [Hmw]; · iexact Hmw
  isplitl [Hbm]; · iexact Hbm
  isplitl [H0]; · iexact H0
  isplitl [H1]; · iexact H1
  isplitl [H2]; · iexact H2
  isplitl [H3]; · iexists _; iexact H3
  isplitl [H4]; · iexists _; iexact H4
  isplitl [Hd]; · iexact Hd
  isplitl [Htodo]; · iexists _; iexact Htodo
  isplitl [Hs2]; · iexact Hs2
  isplitl [Hs3]; · iexact Hs3
  iexists _
  isplitr; rotate_left
  · iexact HO
  · ipureintro
    intro p hp
    rcases Finset.mem_insert.mp hp with rfl | hp
    · exact Or.inr rfl
    rcases Finset.mem_insert.mp hp with rfl | hp
    · exact Or.inr rfl
    exact hW' p hp

end Cert.Proof.Run

end
-- ==== Proof.Tile.lean ====
/-
  The SparseCore kernel's body on one tile, at symbolic coordinates: the tile's ids and its batch's ids fetched, the batch's
  ids split, the tile's 256 rows of the mask computed and written.  The whole body leaves the tile's part of the mask at its
  value, the ids and the bitmap as they were.
-/
module

public import proofs.«01_k».proof.Proof.TileC

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "bmW" => (Memref.whole Cert.KernelIdeal.main_v41_scv : Memref Cert.KernelIdeal.sig Kind.scVector Space.hbm Cert.KernelIdeal.S12800000 EltTy.i32)
local notation "idW" => (Memref.whole Cert.KernelIdeal.main_v40_scv : Memref Cert.KernelIdeal.sig Kind.scVector Space.hbm Cert.KernelIdeal.S8192 EltTy.i32)
local notation "outW" => (Memref.whole Cert.KernelIdeal.main_v42_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S272 EltTy.i32)
local notation "s1W" => (Memref.whole Cert.KernelIdeal.cc0_scratch1 : Memref Cert.KernelIdeal.sig Kind.scVector Space.vmem Cert.KernelIdeal.S2048 EltTy.i32)
local notation "s2W" => (Memref.whole Cert.KernelIdeal.cc0_scratch2 : Memref Cert.KernelIdeal.sig Kind.scVector Space.vmem Cert.KernelIdeal.S2048 EltTy.i32)
local notation "s3W" => (Memref.whole Cert.KernelIdeal.cc0_scratch3 : Memref Cert.KernelIdeal.sig Kind.scVector Space.vmem Cert.KernelIdeal.S640 EltTy.i32)
local notation "s4W" => (Memref.whole Cert.KernelIdeal.cc0_scratch4 : Memref Cert.KernelIdeal.sig Kind.scVector Space.vmem Cert.KernelIdeal.S2048 EltTy.f32)

/-- A DMA semaphore of the tile with coordinates `L`. -/
abbrev smc (d : Dev nD) (L : grid0.Coords) (s : DmaSem sig) : GSem nD τ sig := (thr d L, .dma s)

theorem smc_ne (d : Dev nD) (L : grid0.Coords) {s s' : DmaSem sig} (h : s ≠ s') : smc d L s ≠ smc d L s' := fun e =>
  h (SemLoc.dma.inj (Prod.mk.inj e).2)

/-- The four semaphores of the tile's copies are among its own: they are them, at zero, and the rest. -/
theorem ownSems0_T (d : Dev nD) (L : grid0.Coords) :
    (ownSems0 (thr d L) : sProp 𝕄)
      = iprop(semVal (smc d L cc0_scoped0.sem) 0 ∗ semVal (smc d L cc0_scoped1.sem) 0 ∗ semVal (smc d L cc0_scoped2.sem) 0 ∗ semVal (smc d L cc0_scoped3.sem) 0 ∗ bigSep (((((ownCells (thr d L)).erase (smc d L cc0_scoped0.sem)).erase (smc d L cc0_scoped1.sem)).erase (smc d L cc0_scoped2.sem)).erase (smc d L cc0_scoped3.sem)) fun g => semVal g 0) := by
  unfold SparseCore.Cfg.ownSems0
  rw [SparseCore.bigSep_erase' ((mem_ownCells (g := smc d L cc0_scoped0.sem)).mpr ⟨rfl, by show (SemLoc.dma cc0_scoped0.sem : SemLoc sig).isScoped .scVector = true; decide⟩),
    SparseCore.bigSep_erase' (Finset.mem_erase.mpr ⟨smc_ne d L (by decide), (mem_ownCells (g := smc d L cc0_scoped1.sem)).mpr ⟨rfl, by show (SemLoc.dma cc0_scoped1.sem : SemLoc sig).isScoped .scVector = true; decide⟩⟩),
    SparseCore.bigSep_erase' (Finset.mem_erase.mpr ⟨smc_ne d L (by decide), Finset.mem_erase.mpr ⟨smc_ne d L (by decide), (mem_ownCells (g := smc d L cc0_scoped2.sem)).mpr ⟨rfl, by show (SemLoc.dma cc0_scoped2.sem : SemLoc sig).isScoped .scVector = true; decide⟩⟩⟩),
    SparseCore.bigSep_erase' (Finset.mem_erase.mpr ⟨smc_ne d L (by decide), Finset.mem_erase.mpr ⟨smc_ne d L (by decide), Finset.mem_erase.mpr ⟨smc_ne d L (by decide), (mem_ownCells (g := smc d L cc0_scoped3.sem)).mpr ⟨rfl, by show (SemLoc.dma cc0_scoped3.sem : SemLoc sig).isScoped .scVector = true; decide⟩⟩⟩⟩)]

/-- The five scratch buffers are among the tile's own: they are them, at some contents, and the rest. -/
theorem ownBufs_T (d : Dev nD) (L : grid0.Coords) :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

theorem batch_off (L : grid0.Coords) : k0_off2 L = ![rowBase L / 2048 * 2048] := by
  unfold rowBase; revert L; decide +kernel

theorem doneSet_zero (L : grid0.Coords) : doneSet L 0 = ∅ := by
  ext x; simp only [mem_doneSet, Finset.notMem_empty, iff_false]; omega
theorem todoSet_zero (L : grid0.Coords) : todoSet L 0 = tileSet (L 0).val (L 1).val := by
  ext x; rw [mem_todoSet, mem_tileSet]; unfold rowBase; omega
theorem doneSet_last (L : grid0.Coords) : doneSet L 256 = tileSet (L 0).val (L 1).val := by
  ext x; rw [mem_doneSet, mem_tileSet]; unfold rowBase; omega

/-- The batch's ids, fetched. -/
theorem batch_ids (L : grid0.Coords) (ids : S8192.Idx → BitVec 32) (x : S2048.Idx) :
    ((idW).slice (Rect.unit (s := S8192) (k0_off2 L) S2048.size (k0_off2_inb L)) (fun _ => rfl)).view.read (Elt F) ids x
      = idAt ids (rowBase L / 2048 * 2048 + (x 0).val) := by
  show ids ((Rect.unit (s := S8192) (k0_off2 L) S2048.size (k0_off2_inb L)).emb x) = ids _
  congr 1
  refine funext fun (a : Fin 1) => ?_
  obtain rfl : a = 0 := Subsingleton.elim _ _
  apply Fin.ext
  have hx : (x 0).val < 2048 := (x 0).isLt
  have h1 : (L 1).val < 16 := (L 1).isLt
  have h0 : (L 0).val < 2 := (L 0).isLt
  show k0_off2 L 0 + 1 * (x 0).val = (rowBase L / 2048 * 2048 + (x 0).val) % 8192
  rw [batch_off, Nat.mod_eq_of_lt (by unfold rowBase; omega)]
  show rowBase L / 2048 * 2048 + 1 * (x 0).val = _
  omega

/-- The tile's own ids, fetched into the first 256 places of their buffer. -/
theorem own_ids (L : grid0.Coords) (ids : S8192.Idx → BitVec 32) (g0 : S272.Idx → BitVec 32) (x : S272.Idx) (hx : (x 0).val < 256) :
    (s0W).view.writes (Elt F) g0 [⟨Rect.unit (s := S272) ![0] S256.size inb_S272_S256_0,
      ((idW).slice (Rect.unit (s := S8192) (k0_off1 L) S256.size (k0_off1_inb L)) (fun _ => rfl)).view.read (Elt F) ids⟩] x
      = idAt ids (rowBase L + (x 0).val) := by
  refine (writes_unit_apply (Val := Elt F) cc0_scratch0 g0 _ _ x rfl).trans ?_
  refine (dif_pos (fun a => ?_)).trans ?_
  · obtain rfl : a = (0 : Fin 1) := Subsingleton.elim (α := Fin 1) _ _
    show 0 ≤ (x 0).val ∧ (x 0).val < 0 + 256
    omega
  show ids ((Rect.unit (s := S8192) (k0_off1 L) S256.size (k0_off1_inb L)).emb _) = ids _
  congr 1
  refine funext fun (a : Fin 1) => ?_
  obtain rfl : a = 0 := Subsingleton.elim _ _
  apply Fin.ext
  have h1 : (L 1).val < 16 := (L 1).isLt
  have h0 : (L 0).val < 2 := (L 0).isLt
  show k0_off1 L 0 + 1 * ((x 0).val - 0) = (rowBase L + (x 0).val) % 8192
  rw [k0_off1_eq, Nat.mod_eq_of_lt (by unfold rowBase; omega)]
  show 512 * (L 1).val + 256 * (L 0).val + 1 * ((x 0).val - 0) = _
  unfold rowBase; omega

/-- What a tile takes: read shares of the bitmap and the ids, its part of the mask at any contents. -/
def goRes (d : Dev nD) (c s : ℕ) (q : PosShare TreeShare) (bm : S12800000.Idx → BitVec 32) (ids : S8192.Idx → BitVec 32) : sProp 𝕄 :=
  iprop((bmLoc d ↦{q} bm) ∗ (idLoc d ↦{q} ids) ∗ ∃ f, outLoc d ↦[tileSet c s]{fullShare} f)
/-- What a tile hands back: the shares, its part of the mask at its value. -/
def tdRes (d : Dev nD) (c s : ℕ) (q : PosShare TreeShare) (bm : S12800000.Idx → BitVec 32) (ids : S8192.Idx → BitVec 32) : sProp 𝕄 :=
  iprop((bmLoc d ↦{q} bm) ∗ (idLoc d ↦{q} ids) ∗ outLoc d ↦[tileSet c s]{fullShare} (gout bm ids : S16777216.Idx → F .f32))

set_option maxHeartbeats 1000000 in
theorem tile_body (d : Dev nD) (L : grid0.Coords) (bm : S12800000.Idx → BitVec 32) (ids : S8192.Idx → BitVec 32)
    (hids : ∀ n, (idAt ids n).toNat < 20000) (q : PosShare TreeShare) (O : CellTallies nD τ sig (HIx 1)) (W : Waits sig (HIx 1)) (hO : ∀ g, O g none = 0) :
    iprop(levAts (K (F := F)).L (K (F := F)).lev ∗ emp
        ∗ goRes (F := F) d (L 0).val (L 1).val q bm ids
        ∗ scopedBufs (thr d L) ∗ scopedSems0 (thr d L) ∗ owes (thr d L) O W)
      ⊢ wp frame (wpE (defs₀ (F := F)) 𝒱₀ (thr d L) none) Set.univ
          (cc0__sc_mask_kernel L bmW (Memref.isWhole_whole _) idW (Memref.isWhole_whole _) outW (Memref.isWhole_whole _)
            s0W (Memref.isWhole_whole _) s1W (Memref.isWhole_whole _) s2W (Memref.isWhole_whole _) s3W (Memref.isWhole_whole _) s4W (Memref.isWhole_whole _)
            cc0_scoped0 cc0_scoped1 cc0_scoped2 cc0_scoped3)
          fun _ => iprop(tdRes (F := F) d (L 0).val (L 1).val q bm ids
            ∗ scopedBufs (thr d L) ∗ scopedSems0 (thr d L)
            ∗ ∃ W', ⌜∀ p ∈ W', p ∈ W ∨ p.2 = none⌝ ∗ owes (thr d L) O W') := by
  simp only [cc0__sc_mask_kernel_eq_skeleton]; unfold cc0__sc_mask_kernel_skel
  simp only [k0_part1_eq_skeleton]; unfold k0_part1_skel
  rw [(K (F := F)).scopedBufs_V facts d (cV L) (jV L), SparseCore.Cfg.scopedSems0_V (Val := Elt F) d (cV L) (jV L), ownSems0_T, ownBufs_T]
  unfold goRes tdRes
  iintro ⟨#Hlv, -, ⟨Hbm, Hid, %fo, Hout⟩, ⟨⟨%g0, H0⟩, ⟨%g1, H1⟩, ⟨%g2, H2⟩, ⟨%g3, H3⟩, ⟨%g4, H4⟩, Hbufs⟩, ⟨Hs0, Hs1, Hs2, Hs3, Hsems⟩, HO⟩
  ihave Hmw := ((K (F := F)).mayWaits_none (thr := thr d L) hO) $$ Hlv
  ihave Hbm' := (Entails.of_eq (show (bmLoc d ↦{q} bm : sProp 𝕄) = ((bmW).view.loc (thr d L) ↦{q} bm : sProp 𝕄) from rfl)) $$ Hbm
  ihave Hid' := (Entails.of_eq (show (idLoc d ↦{q} ids : sProp 𝕄) = ((idW).view.loc (thr d L) ↦{q} ids : sProp 𝕄) from rfl)) $$ Hid
  ihave H0' := (Entails.of_eq (show ((thr d L).loc cc0_scratch0 ↦{fullShare} g0 : sProp 𝕄) = ((s0W).view.loc (thr d L) ↦{fullShare} g0 : sProp 𝕄) from rfl)) $$ H0
  ihave H1' := (Entails.of_eq (show ((thr d L).loc cc0_scratch1 ↦{fullShare} g1 : sProp 𝕄) = ((s1W).view.loc (thr d L) ↦{fullShare} g1 : sProp 𝕄) from rfl)) $$ H1
  sl_exec
  have hF0 := own_ids (F := F) L ids g0
  have hG1 : ∀ x : S2048.Idx, View.write (Elt F) (s1W).view g1 (tile_body.sl.dma0_1 L ids) Finset.univ x = idAt ids (rowBase L / 2048 * 2048 + (x 0).val) :=
    fun x => (congrFun (View.write_whole_univ (Val := Elt F) cc0_scratch1 g1 _) x).trans (batch_ids (F := F) L ids x)
  generalize hF0e : (s0W).view.writes (Elt F) g0 [⟨Rect.unit (s := S272) ![0] S256.size inb_S272_S256_0, tile_body.sl.dma0 L ids⟩] = F0
  generalize View.write (Elt F) (s1W).view g1 (tile_body.sl.dma0_1 L ids) Finset.univ = G1 at hG1
  have hF0 : ∀ x : S272.Idx, (x 0).val < 256 → F0 x = idAt ids (rowBase L + (x 0).val) := fun x hx => by
    rw [← hF0e]; exact own_ids (F := F) L ids g0 x hx
  simp only [bind_assoc]
  sl_for (inv1 (F := F) d L G1) $$ [H1' H2]
  case region =>
    intro k a
    exact trip1 d L G1 k a
  · unfold inv1
    iexists G1, g2
    isplitr
    · ipureintro; intro x; exact (if_neg (Nat.not_lt_zero _)).symm
    isplitr
    · ipureintro; intro x hx; exact absurd hx (Nat.not_lt_zero _)
    isplitl [H1']; · iexact H1'
    iexact H2
  iintro %_ HI
  unfold inv1
  icases HI with ⟨%f1, %f2, %hf1, %hf2, H1, H2⟩
  have e1 : k0_t1_loop.trips = 128 := by decide
  have hf1' : ∀ x : S2048.Idx, f1 x = IntOp.shrui .vector (idAt ids (rowBase L / 2048 * 2048 + (x 0).val)) 5#32 := fun x => by
    have hx : (x 0).val < 2048 := (x 0).isLt
    refine (hf1 x).trans ((if_pos ?_).trans (by rw [hG1]))
    show (x 0).val < 16 * k0_t1_loop.trips
    rw [e1]; omega
  have hf2' : ∀ x : S2048.Idx, f2 x = IntOp.andi (idAt ids (rowBase L / 2048 * 2048 + (x 0).val)) 31#32 := fun x => by
    have hx : (x 0).val < 2048 := (x 0).isLt
    refine (hf2 x ?_).trans (by rw [hG1])
    show (x 0).val < 16 * k0_t1_loop.trips
    rw [e1]; omega
  sl_exec
  ihave Hout' := (Entails.of_eq (show (outLoc d ↦[tileSet (L 0).val (L 1).val]{fullShare} fo : sProp 𝕄)
    = ((outW).view.loc (thr d L) ↦[todoSet L 0]{fullShare} fo : sProp 𝕄) by rw [todoSet_zero])) $$ Hout
  sl_for (inv2 (F := F) d L bm ids F0 f1 f2 q O W) $$ [Hmw Hbm' H0' H1 H2 H3 H4 Hout' Hs2 Hs3 HO]
  case region =>
    intro k a
    exact trip2 d L bm ids F0 f1 f2 q O W hids hF0 hf1' hf2' k a
  · unfold inv2
    isplitl [Hmw]; · iexact Hmw
    isplitl [Hbm']; · iexact Hbm'
    isplitl [H0']; · iexact H0'
    isplitl [H1]; · iexact H1
    isplitl [H2]; · iexact H2
    isplitl [H3]; · iexists _; iexact H3
    isplitl [H4]; · iexists _; iexact H4
    isplitr
    · rw [doneSet_zero, pointsTo_empty]; iempintro
    isplitl [Hout']; · iexists _; iexact Hout'
    isplitl [Hs2]; · iexact Hs2
    isplitl [Hs3]; · iexact Hs3
    iexists _
    isplitr; rotate_left
    · iexact HO
    · ipureintro
      intro p hp
      rcases Finset.mem_insert.mp hp with rfl | hp
      · exact Or.inr rfl
      rcases Finset.mem_insert.mp hp with rfl | hp
      · exact Or.inr rfl
      exact Or.inl hp
  iintro %_ HI
  unfold inv2
  icases HI with ⟨-, Hbm, H0, H1, H2, H3, H4, Hout, -, Hs2, Hs3, %W', %hW', HO⟩
  ihave Hout' := (Entails.of_eq (show ((outW).view.loc (thr d L) ↦[doneSet L k0_t2_loop.trips]{fullShare} (gout bm ids : S16777216.Idx → F .f32) : sProp 𝕄)
    = (outLoc d ↦[tileSet (L 0).val (L 1).val]{fullShare} (gout bm ids : S16777216.Idx → F .f32) : sProp 𝕄) by
      rw [show k0_t2_loop.trips = 256 by decide, doneSet_last])) $$ Hout
  sl_exec
  sl_step
  isplitl [Hbm Hid' Hout']
  · isplitl [Hbm]; · iexact Hbm
    isplitl [Hid']; · iexact Hid'
    iexact Hout'
  isplitl [H0 H1 H2 H3 H4 Hbufs]
  · isplitl [H0]; · iexists _; iexact H0
    isplitl [H1]; · iexists _; iexact H1
    isplitl [H2]; · iexists _; iexact H2
    isplitl [H3]; · iexact H3
    isplitl [H4]; · iexact H4
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'
  isplitr
  · ipureintro; exact hW'
  · iexact HO

end Cert.Proof.Run

end
-- ==== Proof.Pay.lean ====
/-
  The SparseCore call as the launch sees it: what each SparseCore and each tile is handed (read shares of the bitmap and the
  ids, its part of the mask), what it hands back (the same, the mask at its value), and the launch theorem's obligations.
-/
module

public import proofs.«01_k».proof.Proof.Tile

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "bmW" => (Memref.whole Cert.KernelIdeal.main_v41_scv : Memref Cert.KernelIdeal.sig Kind.scVector Space.hbm Cert.KernelIdeal.S12800000 EltTy.i32)
local notation "idW" => (Memref.whole Cert.KernelIdeal.main_v40_scv : Memref Cert.KernelIdeal.sig Kind.scVector Space.hbm Cert.KernelIdeal.S8192 EltTy.i32)
local notation "outW" => (Memref.whole Cert.KernelIdeal.main_v42_scv : Memref Cert.KernelIdeal.sig Kind.scVector Space.hbm Cert.KernelIdeal.S16777216 EltTy.f32)
local notation "s0W" => (Memref.whole Cert.KernelIdeal.cc0_scratch0 : Memref Cert.KernelIdeal.sig Kind.scVector Space.vmem Cert.KernelIdeal.S272 EltTy.i32)
local notation "s1W" => (Memref.whole Cert.KernelIdeal.cc0_scratch1 : Memref Cert.KernelIdeal.sig Kind.scVector Space.vmem Cert.KernelIdeal.S2048 EltTy.i32)
local notation "s2W" => (Memref.whole Cert.KernelIdeal.cc0_scratch2 : Memref Cert.KernelIdeal.sig Kind.scVector Space.vmem Cert.KernelIdeal.S2048 EltTy.i32)
local notation "s3W" => (Memref.whole Cert.KernelIdeal.cc0_scratch3 : Memref Cert.KernelIdeal.sig Kind.scVector Space.vmem Cert.KernelIdeal.S640 EltTy.i32)
local notation "s4W" => (Memref.whole Cert.KernelIdeal.cc0_scratch4 : Memref Cert.KernelIdeal.sig Kind.scVector Space.vmem Cert.KernelIdeal.S2048 EltTy.f32)

/-- SparseCore `c`'s share of what all tiles read, and tile `s`'s share of it. -/
abbrev coreTok (c : Fin 2) : PosShare TreeShare := Transfers.shareTok fullShare 2 c
abbrev tileTok (c : Fin 2) (s : Fin 16) : PosShare TreeShare := Transfers.shareTok (coreTok c) 16 s

/-- A tile's operands, the mask's part at some contents. -/
theorem go_intro (d : Dev nD) (c s : ℕ) (q : PosShare TreeShare) (bm : S12800000.Idx → BitVec 32) (ids : S8192.Idx → BitVec 32) (f : Buf (Elt F) (outLoc d)) :
    (bmLoc d ↦{q} bm : sProp 𝕄) ∗ (idLoc d ↦{q} ids) ∗ (outLoc d ↦[tileSet c s]{fullShare} f) ⊢ goRes (F := F) d c s q bm ids := by
  unfold goRes
  iintro ⟨Hb, Hi, Ho⟩
  isplitl [Hb]; · iexact Hb
  isplitl [Hi]; · iexact Hi
  iexists f; iexact Ho

section Launch

variable (BM : Dev nD → S12800000.Idx → BitVec 32) (ID : Dev nD → S8192.Idx → BitVec 32)

/-- What SparseCore `c` takes, and what it hands back. -/
def stRes (d : Dev nD) (c : Fin 2) : sProp 𝕄 :=
  iprop((bmLoc d ↦{coreTok c} BM d) ∗ (idLoc d ↦{coreTok c} ID d) ∗ ∃ f, outLoc d ↦[coreSet c.val]{fullShare} f)
def dnRes (d : Dev nD) (c : Fin 2) : sProp 𝕄 :=
  iprop((bmLoc d ↦{coreTok c} BM d) ∗ (idLoc d ↦{coreTok c} ID d)
    ∗ outLoc d ↦[coreSet c.val]{fullShare} (gout (BM d) (ID d) : S16777216.Idx → F .f32))

/-- The call's payloads; its kernel consumes nothing of the launch's. -/
def P : (K (F := F)).Pay (nD := nD) (Val := Elt F) (Name := ℕ) (U := UU) where
  st := fun q d c => match q with | 0 => stRes (F := F) BM ID d c
  dn := fun q d c => match q with | 0 => dnRes (F := F) BM ID d c
  go := fun q d c i => match q with | 0 => goRes (F := F) d c.val i.val (tileTok c i) (BM d) (ID d)
  td := fun q d c i => match q with | 0 => tdRes (F := F) d c.val i.val (tileTok c i) (BM d) (ID d)
  x := fun _ _ => iprop(emp)

instance P_storable : (P (F := F) BM ID).IsStorable where
  st q d c := by match q with | 0 => (show BI.Storable (upEmb : UEmb _ 𝕄) (stRes (F := F) BM ID d c)); unfold stRes; infer_instance
  dn q d c := by match q with | 0 => (show BI.Storable (upEmb : UEmb _ 𝕄) (dnRes (F := F) BM ID d c)); unfold dnRes; infer_instance
  go q d c i := by match q with | 0 => (show BI.Storable (upEmb : UEmb _ 𝕄) (goRes (F := F) d c.val i.val (tileTok c i) (BM d) (ID d))); unfold goRes; infer_instance
  td q d c i := by match q with | 0 => (show BI.Storable (upEmb : UEmb _ 𝕄) (tdRes (F := F) d c.val i.val (tileTok c i) (BM d) (ID d))); unfold tdRes; infer_instance

/-- The body table's entry of the call's kernel. -/
theorem defs₀_vector (c : Fin τ.nSC) (s : Fin τ.nSub) :
    defs₀ (F := F) (.scVector c s) 0 ()
      = SparseCore.onTile hcore0 hsub0 (fun c s => cc0__sc_mask_kernel (fun | 0 => c | 1 => s | ⟨_ + 2, h⟩ => absurd h (Nat.not_lt.2 (Nat.le_add_left _ _)))
          bmW (Memref.isWhole_whole _) idW (Memref.isWhole_whole _) outW (Memref.isWhole_whole _)
          s0W (Memref.isWhole_whole _) s1W (Memref.isWhole_whole _) s2W (Memref.isWhole_whole _) s3W (Memref.isWhole_whole _) s4W (Memref.isWhole_whole _)
          cc0_scoped0 cc0_scoped1 cc0_scoped2 cc0_scoped3) ⟨⟩ c s := rfl

/-- The tile's post in the launch's terms. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile runs its body from what it is handed to what it hands back. -/
theorem tileObl (hids : ∀ d n, (idAt (ID d) n).toNat < 20000) : (K (F := F)).TileObl (D (F := F)) 𝒱 (P (F := F) BM ID) v₀ 0 := by
  intro d c i O W hO _ _
  simp only [show (P (F := F) BM ID).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (fun | 0 => ⟨_, hc.1⟩ | 1 => ⟨_, hc.2⟩ | ⟨_ + 2, h⟩ => absurd h (Nat.not_lt.2 (Nat.le_add_left _ _)))
    (BM d) (ID d) (hids d) (tileTok c i) O W hO).trans (wp_mono frame _ _ fun _ => obl_post)

/-! ## The mask's parts -/

theorem tiles_disjoint (c : ℕ) : ∀ s ∈ (Finset.univ : Finset (Fin 16)), ∀ s' ∈ (Finset.univ : Finset (Fin 16)), s ≠ s' →
    Disjoint (tileSet c s.val) (tileSet c s'.val) := fun s _ s' _ h =>
  Finset.disjoint_left.mpr fun x h1 h2 => by
    rw [mem_tileSet] at h1 h2
    exact h (Fin.ext (by omega))
theorem tiles_cover (c : Fin 2) : (Finset.univ : Finset (Fin 16)).biUnion (fun s => tileSet c.val s.val) = coreSet c.val := by
  ext x
  have hx : (x 0).val < 16777216 := (x 0).isLt
  have hc := c.isLt
  simp only [Finset.mem_biUnion, Finset.mem_univ, true_and, mem_tileSet, mem_coreSet]
  constructor
  · rintro ⟨s, h⟩; omega
  · intro h
    exact ⟨⟨(x 0).val / 524288 / 2, by omega⟩, by show _ ≤ _ ∧ _ < _; simp only []; omega⟩
theorem cores_disjoint : ∀ c ∈ (Finset.univ : Finset (Fin 2)), ∀ c' ∈ (Finset.univ : Finset (Fin 2)), c ≠ c' →
    Disjoint (coreSet c.val) (coreSet c'.val) := fun c _ c' _ h =>
  Finset.disjoint_left.mpr fun x h1 h2 => by
    rw [mem_coreSet] at h1 h2
    exact h (Fin.ext (by omega))
theorem cores_cover : (Finset.univ : Finset (Fin 2)).biUnion (fun c => coreSet c.val) = Finset.univ := by
  ext x
  simp only [Finset.mem_biUnion, Finset.mem_univ, true_and, mem_coreSet, iff_true]
  exact ⟨⟨(x 0).val / 524288 % 2, by omega⟩, rfl⟩

theorem core_tiles (d : Dev nD) (c : Fin 2) (f : Buf (Elt F) (outLoc d)) :
    (outLoc d ↦[coreSet c.val]{fullShare} f : sProp 𝕄) = bigSep Finset.univ fun s : Fin 16 => outLoc d ↦[tileSet c.val s.val]{fullShare} f := by
  rw [← tiles_cover c]
  exact pointsTo_biUnion Finset.univ (ℓ := outLoc d) (fun s : Fin 16 => tileSet c.val s.val) (tiles_disjoint c.val)
theorem out_cores (d : Dev nD) (f : Buf (Elt F) (outLoc d)) :
    (outLoc d ↦{fullShare} f : sProp 𝕄) = bigSep Finset.univ fun c : Fin 2 => outLoc d ↦[coreSet c.val]{fullShare} f := by
  rw [← pointsTo_biUnion Finset.univ (ℓ := outLoc d) (fun c : Fin 2 => coreSet c.val) cores_disjoint, cores_cover]; try rfl

/-- A SparseCore's operands are its tiles' with what is left of the shares, and back. -/
theorem vecSplit : (K (F := F)).VecSplit' (P (F := F) BM ID) 0 := by
  intro d c
  show stRes (F := F) BM ID d c ⊢ |={Set.univ}=> iprop(
      (bigSep Finset.univ fun i : Fin 16 => goRes (F := F) d c.val i.val (tileTok c i) (BM d) (ID d))
      ∗ ((bigSep Finset.univ fun i : Fin 16 => tdRes (F := F) d c.val i.val (tileTok c i) (BM d) (ID d)) -∗ dnRes (F := F) BM ID d c))
  unfold stRes dnRes tdRes
  rw [bigSep_sep', bigSep_sep', core_tiles (F := F) d c (gout (BM d) (ID d) : S16777216.Idx → F .f32)]
  iintro ⟨Hb, Hi, %f, Ho⟩
  ihave Hb' := (Transfers.pointsTo_toks_split (coreTok c) 16) $$ Hb
  ihave Hi' := (Transfers.pointsTo_toks_split (coreTok c) 16) $$ Hi
  icases Hb' with ⟨Hbd, Hb⟩
  icases Hi' with ⟨Hid, Hi⟩
  have hs : (outLoc d ↦[coreSet c.val]{fullShare} f : sProp 𝕄) ⊢ bigSep Finset.univ fun s : Fin 16 => outLoc d ↦[tileSet c.val s.val]{fullShare} f := by
    rw [core_tiles (F := F) d c f]
  ihave Ho := hs $$ Ho
  imodintro
  isplitl [Hb Hi Ho]
  · have hgo : iprop((bigSep Finset.univ fun i : Fin 16 => bmLoc d ↦{tileTok c i} BM d) ∗ (bigSep Finset.univ fun i : Fin 16 => idLoc d ↦{tileTok c i} ID d)
        ∗ bigSep Finset.univ fun i : Fin 16 => outLoc d ↦[tileSet c.val i.val]{fullShare} f)
        ⊢ (bigSep Finset.univ fun i : Fin 16 => goRes (F := F) d c.val i.val (tileTok c i) (BM d) (ID d) : sProp 𝕄) := by
      rw [← bigSep_sep', ← bigSep_sep']
      refine bigSep_mono fun i _ => ?_
      exact go_intro d c.val i.val (tileTok c i) (BM d) (ID d) f
    iapply hgo
    isplitl [Hb]; · iexact Hb
    isplitl [Hi]; · iexact Hi
    iexact Ho
  iintro ⟨Hb, Hi, Ho⟩
  isplitl [Hbd Hb]
  · iapply (Transfers.pointsTo_toks_join (coreTok c) 16)
    isplitl [Hbd]; · iexact Hbd
    iexact Hb
  isplitl [Hid Hi]
  · iapply (Transfers.pointsTo_toks_join (coreTok c) 16)
    isplitl [Hid]; · iexact Hid
    iexact Hi
  iexact Ho

end Launch

end Cert.Proof.Run

end
-- ==== Proof.TcBody.lean ====
/-
  The TensorCore kernel's body at one grid point.
-/
module

public import proofs.«01_k».proof.Proof.Setup
public import proofs.«01_k».proof.Proof.Gen.KernelIdeal.Skeleton
public import proofs.«01_k».proof.Proof.Gen.KernelIdeal.Points
public import proofs.«01_k».proof.Proof.Gen.KernelIdeal.Launch
public import Idealize.ShloMosaic.Lib.Tactic
public import Idealize.ShloMosaic.Lib.VecWindow
public import Idealize.ShloMosaic.Lib.Pipeline.FrameBody

@[expose] public section

noncomputable section

namespace Cert.Proof.Run

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's test, of the grid point: it is the first one. -/
theorem first_iff (i : grid1.Coords) :
    Scalar.cmpi .ne ((Scalar.extui (Scalar.andi (Scalar.cmpi .eq (BitVec.ofNat 32 (i 0).val) 0#32) (Scalar.cmpi .eq (BitVec.ofNat 32 (i 1).val) 0#32)) : BitVec 32)) 0#32 = 1#1
      ↔ (i 0).val = 0 ∧ (i 1).val = 0 := by
  have : ∀ (a : Fin 4) (b : Fin 8), Scalar.cmpi .ne ((Scalar.extui (Scalar.andi (Scalar.cmpi .eq (BitVec.ofNat 32 a.val) 0#32) (Scalar.cmpi .eq (BitVec.ofNat 32 b.val) 0#32)) : BitVec 32)) 0#32 = 1#1
      ↔ a.val = 0 ∧ b.val = 0 := by decide
  exact this (i 0) (i 1)

/-- The body at a point: the operands left as they are, the point's part added to each accumulator, which the first point
    takes as zero. -/
theorem body_run (c : Dev nD) (i : grid1.Coords)
    (M2 : Memref sig .tc .vmem S1x256x64 .f32) (h2 : M2.IsWhole) (M3 : Memref sig .tc .vmem S1x2048x64 .f32) (h3 : M3.IsWhole)
    (M4 : Memref sig .tc .vmem S1x256x2048 .f32) (h4 : M4.IsWhole) (M5 : Memref sig .tc .vmem S1x1x256 .f32) (h5 : M5.IsWhole)
    (M6 : Memref sig .tc .vmem S1x1x2048 .f32) (h6 : M6.IsWhole) (M7 : Memref sig .tc .vmem S1x1 .f32) (h7 : M7.IsWhole)
    (M8 : Memref sig .tc .vmem S1x1 .f32) (h8 : M8.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (Q : PUnit → sProp 𝕄) :
    iprop(pt c M2 f2 ∗ pt c M3 f3 ∗ pt c M4 f4 ∗ pt c M5 f5 ∗ pt c M6 f6 ∗ pt c M7 f7 ∗ pt c M8 f8
      ∗ (iprop(pt c M2 f2 ∗ pt c M3 f3 ∗ pt c M4 f4 ∗ pt c M5 f5 ∗ pt c M6 f6
        ∗ (∃ f, ⌜M7.view.read (Elt F) f = k1_pay1 (k1_pay5 (M2.view.read (Elt F) f2) (M3.view.read (Elt F) f3) (M4.view.read (Elt F) f4)) (k1_pay8 (M5.view.read (Elt F) f5)) (k1_pay9 (M6.view.read (Elt F) f6)) (if (i 0).val = 0 ∧ (i 1).val = 0 then k1_pay3 else M7.view.read (Elt F) f7)⌝ ∗ pt c M7 f)
        ∗ (∃ f, ⌜M8.view.read (Elt F) f = k1_pay2 (k1_pay6 (M5.view.read (Elt F) f5)) (k1_pay7 (M6.view.read (Elt F) f6)) (if (i 0).val = 0 ∧ (i 1).val = 0 then k1_pay4 else M8.view.read (Elt F) f8)⌝ ∗ pt c M8 f)) -∗ Q ⟨⟩))
    ⊢ wp frame (wpE (defs₀ (F := F)) 𝒱₀ (c : Thread nD τ) none) Set.univ
        (cc1__tc_loss_kernel i M2 h2 M3 h3 M4 h4 M5 h5 M6 h6 M7 h7 M8 h8) Q := by
  rw [cc1__tc_loss_kernel_eq_skeleton]
  unfold cc1__tc_loss_kernel_skel
  rw [k1_part1_eq_skeleton]
  unfold k1_part1_skel
  iintro ⟨H2, H3, H4, H5, H6, H7, H8, Hk⟩
  sl_exec
  sl_step
  iapply Hk
  isplitl [H2]; · iexact H2
  isplitl [H3]; · iexact H3
  isplitl [H4]; · iexact H4
  isplitl [H5]; · iexact H5
  isplitl [H6]; · iexact H6
  isplitl [H7]
  · iexists _; isplitr; rotate_left
    · iexact H7
    · ipureintro
      unfold body_run.sl.v36 body_run.sl.r body_run.sl.r_3 body_run.sl.r_4
      by_cases h : (i 0).val = 0 ∧ (i 1).val = 0
      · rw [dif_pos (show body_run.sl.v4 i = 1#1 from (first_iff i).mpr h), if_pos h]
        refine (M7.view.read_writes_full _ inb_S1x1_S1x1_0_0 _ _).trans ?_
        refine congr (congr (congr (congrArg k1_pay1 (congr (congr (congrArg k1_pay5 ?_) ?_) ?_)) (congrArg k1_pay8 ?_)) (congrArg k1_pay9 ?_)) ?_
        · exact M2.view.readAt_full _ inb_S1x256x64_S1x256x64_0_0_0
        · exact M3.view.readAt_full _ inb_S1x2048x64_S1x2048x64_0_0_0
        · exact M4.view.readAt_full _ inb_S1x256x2048_S1x256x2048_0_0_0
        · exact M5.view.readAt_full _ inb_S1x1x256_S1x1x256_0_0_0
        · exact M6.view.readAt_full _ inb_S1x1x2048_S1x1x2048_0_0_0
        · exact M7.view.readAt_writes_full _ inb_S1x1_S1x1_0_0 inb_S1x1_S1x1_0_0 _ _
      · rw [dif_neg (show ¬ body_run.sl.v4 i = 1#1 from (first_iff i).not.mpr h), if_neg h]
        refine (M7.view.read_writes_full _ inb_S1x1_S1x1_0_0 _ _).trans ?_
        refine congr (congr (congr (congrArg k1_pay1 (congr (congr (congrArg k1_pay5 ?_) ?_) ?_)) (congrArg k1_pay8 ?_)) (congrArg k1_pay9 ?_)) ?_
        · exact M2.view.readAt_full _ inb_S1x256x64_S1x256x64_0_0_0
        · exact M3.view.readAt_full _ inb_S1x2048x64_S1x2048x64_0_0_0
        · exact M4.view.readAt_full _ inb_S1x256x2048_S1x256x2048_0_0_0
        · exact M5.view.readAt_full _ inb_S1x1x256_S1x1x256_0_0_0
        · exact M6.view.readAt_full _ inb_S1x1x2048_S1x1x2048_0_0_0
        · exact M7.view.readAt_full _ inb_S1x1_S1x1_0_0
  iexists _; isplitr; rotate_left
  · iexact H8
  · ipureintro
    unfold body_run.sl.v46 body_run.sl.r_1 body_run.sl.r_2
    by_cases h : (i 0).val = 0 ∧ (i 1).val = 0
    · rw [dif_pos (show body_run.sl.v4 i = 1#1 from (first_iff i).mpr h), if_pos h]
      refine (M8.view.read_writes_full _ inb_S1x1_S1x1_0_0 _ _).trans ?_
      refine congr (congr (congrArg k1_pay2 (congrArg k1_pay6 ?_)) (congrArg k1_pay7 ?_)) ?_
      · exact M5.view.readAt_full _ inb_S1x1x256_S1x1x256_0_0_0
      · exact M6.view.readAt_full _ inb_S1x1x2048_S1x1x2048_0_0_0
      · exact M8.view.readAt_writes_full _ inb_S1x1_S1x1_0_0 inb_S1x1_S1x1_0_0 _ _
    · rw [dif_neg (show ¬ body_run.sl.v4 i = 1#1 from (first_iff i).not.mpr h), if_neg h]
      refine (M8.view.read_writes_full _ inb_S1x1_S1x1_0_0 _ _).trans ?_
      refine congr (congr (congrArg k1_pay2 (congrArg k1_pay6 ?_)) (congrArg k1_pay7 ?_)) ?_
      · exact M5.view.readAt_full _ inb_S1x1x256_S1x1x256_0_0_0
      · exact M6.view.readAt_full _ inb_S1x1x2048_S1x1x2048_0_0_0
      · exact M8.view.readAt_full _ inb_S1x1_S1x1_0_0

end Cert.Proof.Run

end
-- ==== Proof.Region.lean ====
/-
  The TensorCore kernel's region: the pipeline's proof data, with the two accumulators' values point by point.
-/
module

public import proofs.«01_k».proof.Proof.TcBody
public import proofs.«01_k».proof.Proof.Gen.KernelIdeal.Skeleton
public import proofs.«01_k».proof.Proof.Gen.KernelIdeal.Points
public import proofs.«01_k».proof.Proof.Gen.KernelIdeal.Launch
public import Idealize.ShloMosaic.Lib.Tactic
public import Idealize.ShloMosaic.Lib.Pipeline.RegionArraysS
public import Idealize.ShloMosaic.Lib.Pipeline.FrameBody

@[expose] public section

noncomputable section

namespace Cert.Proof.Run

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig (HIx 1) (Elt F) ℕ UU ℕ

section Region

-- the buffers' contents when the region is entered, core by core
variable (Vr : Dev nD → Valuation τ sig (Elt F))

/-- What the fetch of an operand's window at a point stages: the block of the operand's array there. -/
abbrev stg (c : Dev nD) (w : Fin cfg1.W) (t : Fin cfg1.N) : ((cfg1.win w).xblock (cfg1.grid.coords t)).Idx → Elt F (cfg1.win w).elt :=
  ((cfg1.win w).blk t).view.read (Elt F) (Vr c (Proc.devRef .tc (Pipeline.arrRef spec1 w)))

/-- The two accumulators after point `n`: from zero, a part added at each point. -/
def accN (c : Dev nD) : (n : ℕ) → n < cfg1.N → FVec F S1x1 .f32
  | 0, h => k1_pay1 (k1_pay5 (stg Vr c 0 ⟨0, h⟩) (stg Vr c 1 ⟨0, h⟩) (stg Vr c 2 ⟨0, h⟩)) (k1_pay8 (stg Vr c 3 ⟨0, h⟩)) (k1_pay9 (stg Vr c 4 ⟨0, h⟩)) k1_pay3
  | n + 1, h => k1_pay1 (k1_pay5 (stg Vr c 0 ⟨n + 1, h⟩) (stg Vr c 1 ⟨n + 1, h⟩) (stg Vr c 2 ⟨n + 1, h⟩)) (k1_pay8 (stg Vr c 3 ⟨n + 1, h⟩)) (k1_pay9 (stg Vr c 4 ⟨n + 1, h⟩))
      (accN c n (Nat.lt_of_succ_lt h))
def accD (c : Dev nD) : (n : ℕ) → n < cfg1.N → FVec F S1x1 .f32
  | 0, h => k1_pay2 (k1_pay6 (stg Vr c 3 ⟨0, h⟩)) (k1_pay7 (stg Vr c 4 ⟨0, h⟩)) k1_pay4
  | n + 1, h => k1_pay2 (k1_pay6 (stg Vr c 3 ⟨n + 1, h⟩)) (k1_pay7 (stg Vr c 4 ⟨n + 1, h⟩)) (accD c n (Nat.lt_of_succ_lt h))

/-- The pipeline's proof data on core `c`: the arrays as the region finds them; after the body an operand's buffer as
    fetched, an accumulator's at its value; nothing owed. -/
def dats (_ : Fin 1) (c : Dev nD) : Dat τ (Elt F) (HIx 1) ℕ UU ℕ cfg1 c where
  A w := Vr c (Proc.devRef .tc (Pipeline.arrRef spec1 w))
  after w t := match w with
    | ⟨0, _⟩ => stg Vr c 0 t
    | ⟨1, _⟩ => stg Vr c 1 t
    | ⟨2, _⟩ => stg Vr c 2 t
    | ⟨3, _⟩ => stg Vr c 3 t
    | ⟨4, _⟩ => stg Vr c 4 t
    | ⟨5, _⟩ => accN Vr c t.val t.isLt
    | ⟨6, _⟩ => accD Vr c t.val t.isLt
    | ⟨_ + 7, h⟩ => absurd h (Nat.not_lt.2 (Nat.le_add_left _ _))
  Φ _ := iprop(emp)
  q _ := fullShare
  owed _ := 0

theorem A_eq (c : Dev nD) (w : Fin cfg1.W) : (dats Vr 0 c).A w = Vr c (Proc.devRef .tc (Pipeline.arrRef spec1 w)) := by dsimp only [dats]

/-- Every operand's buffer holds its block of the point when the body runs. -/
theorem before_0 (c : Dev nD) (t : Fin cfg1.N) (d) : (dats Vr 0 c).before 0 t d = stg Vr c 0 t :=
  (dats Vr 0 c).before_in_eq_fetched 0 rfl (fun _ => rfl) (fun _ _ _ => rfl) (fun _ => rfl) t d
theorem before_1 (c : Dev nD) (t : Fin cfg1.N) (d) : (dats Vr 0 c).before 1 t d = stg Vr c 1 t :=
  (dats Vr 0 c).before_in_eq_fetched 1 rfl (fun _ => rfl) (fun _ _ _ => rfl) (fun _ => rfl) t d
theorem before_2 (c : Dev nD) (t : Fin cfg1.N) (d) : (dats Vr 0 c).before 2 t d = stg Vr c 2 t :=
  (dats Vr 0 c).before_in_eq_fetched 2 rfl (fun _ => rfl) (fun _ _ _ => rfl) (fun _ => rfl) t d
theorem before_3 (c : Dev nD) (t : Fin cfg1.N) (d) : (dats Vr 0 c).before 3 t d = stg Vr c 3 t :=
  (dats Vr 0 c).before_in_eq_fetched 3 rfl (fun _ => rfl) (fun _ _ _ => rfl) (fun _ => rfl) t d
theorem before_4 (c : Dev nD) (t : Fin cfg1.N) (d) : (dats Vr 0 c).before 4 t d = stg Vr c 4 t :=
  (dats Vr 0 c).before_in_eq_fetched 4 rfl (fun _ => rfl) (fun _ _ _ => rfl) (fun _ => rfl) t d

/-- An accumulator's buffer holds, after the first point, what the point before left. -/
theorem before_5 (c : Dev nD) (n : ℕ) (h : n + 1 < cfg1.N) (d) : (dats Vr 0 c).before 5 ⟨n + 1, h⟩ d = accN Vr c n (Nat.lt_of_succ_lt h) :=
  (dats Vr 0 c).before_out_kept 5 rfl ⟨n + 1, h⟩ (Nat.succ_ne_zero n)
    (Bool.eq_false_iff.mpr fun hf => by
      have := (flush1_5 _).mp hf
      have hN : n + 1 < 32 := h
      change (n + 1 - 1) % 32 = 31 at this
      omega) (fun _ => rfl) (fun _ _ => rfl) d
theorem before_6 (c : Dev nD) (n : ℕ) (h : n + 1 < cfg1.N) (d) : (dats Vr 0 c).before 6 ⟨n + 1, h⟩ d = accD Vr c n (Nat.lt_of_succ_lt h) :=
  (dats Vr 0 c).before_out_kept 6 rfl ⟨n + 1, h⟩ (Nat.succ_ne_zero n)
    (Bool.eq_false_iff.mpr fun hf => by
      have := (flush1_6 _).mp hf
      have hN : n + 1 < 32 := h
      change (n + 1 - 1) % 32 = 31 at this
      omega) (fun _ => rfl) (fun _ _ => rfl) d

/-- The body's first point is the grid's. -/
theorem first_point (t : Fin cfg1.N) : ((grid1.coords t 0).val = 0 ∧ (grid1.coords t 1).val = 0) = (t.val = 0) :=
  propext ((by decide : ∀ t : Fin grid1.N, ((grid1.coords t 0).val = 0 ∧ (grid1.coords t 1).val = 0) ↔ t.val = 0) t)

theorem accN_step (c : Dev nD) (t : Fin cfg1.N) (d) :
    k1_pay1 (k1_pay5 (stg Vr c 0 t) (stg Vr c 1 t) (stg Vr c 2 t)) (k1_pay8 (stg Vr c 3 t)) (k1_pay9 (stg Vr c 4 t))
      (if t.val = 0 then k1_pay3 else (dats Vr 0 c).before 5 t d) = accN Vr c t.val t.isLt := by
  obtain ⟨n, h⟩ := t
  cases n with
  | zero => rfl
  | succ n => rw [if_neg (Nat.succ_ne_zero n), before_5]; rfl
theorem accD_step (c : Dev nD) (t : Fin cfg1.N) (d) :
    k1_pay2 (k1_pay6 (stg Vr c 3 t)) (k1_pay7 (stg Vr c 4 t))
      (if t.val = 0 then k1_pay4 else (dats Vr 0 c).before 6 t d) = accD Vr c t.val t.isLt := by
  obtain ⟨n, h⟩ := t
  cases n with
  | zero => rfl
  | succ n => rw [if_neg (Nat.succ_ne_zero n), before_6]; rfl

/-- A whole memref owned is its buffer held at contents that read so. -/
theorem owns_pt (c : Dev nD) {sp : Space} {S : Shape} {e : EltTy} {M : Memref sig .tc sp S e} (hM : M.IsWhole) (X : S.Idx → Elt F e) :
    (Idealize.ShloMosaic.owns (c : Thread nD τ) M fullShare X : sProp 𝕄) = iprop(∃ f : Bf (F := F) c M, ⌜M.view.read (Elt F) f = X⌝ ∗ pt c M f) := by
  unfold Idealize.ShloMosaic.owns; rw [hM.set_eq_univ]

/-- The pipeline's body obligation. -/
theorem body_obligation (c : Dev nD) : BodyObligation (dats Vr 0 c) (defs₀ (F := F)) 𝒱₀ none Set.univ := fun t => by
  rw [bigSep_W1, bigSep_W1]
  rw [show (dats Vr 0 c).Φ t.castSucc = iprop(emp) from rfl, show (dats Vr 0 c).Φ t.succ = iprop(emp) from rfl]
  unfold Dat.owesAt Pipeline.owesWithin
  rw [show (dats Vr 0 c).owed t.castSucc = 0 from rfl, show (dats Vr 0 c).owed t.succ = 0 from rfl]
  simp only [owns_pt c (hstage1_0 _), owns_pt c (hstage1_1 _), owns_pt c (hstage1_2 _), owns_pt c (hstage1_3 _), owns_pt c (hstage1_4 _), owns_pt c (hstage1_5 _), owns_pt c (hstage1_6 _)]
  iintro ⟨-, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  rw [before_0] at hf0; rw [before_1] at hf1; rw [before_2] at hf2; rw [before_3] at hf3; rw [before_4] at hf4
  rw [show (defs₀ (F := F)) Proc.tc 1 (t, cfg1.slots t) = bodyAt1 t from rfl]
  iapply body_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) f0 f1 f2 f3 f4 f5 f6
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, ⟨%g5, %hg5, H5⟩, ⟨%g6, %hg6, H6⟩⟩
  have e5 : (stage1_5 (cfg1.slots t 5)).view.read (Elt F) g5 = (dats Vr 0 c).after 5 t :=
    hg5.trans ((congr (congr (congr (congrArg k1_pay1 (congr (congr (congrArg k1_pay5 hf0) hf1) hf2)) (congrArg k1_pay8 hf3)) (congrArg k1_pay9 hf4))
      (if_congr (iff_of_eq (first_point t)) rfl hf5)).trans (accN_step Vr c t d5))
  have e6 : (stage1_6 (cfg1.slots t 6)).view.read (Elt F) g6 = (dats Vr 0 c).after 6 t :=
    hg6.trans ((congr (congr (congrArg k1_pay2 (congrArg k1_pay6 hf3)) (congrArg k1_pay7 hf4))
      (if_congr (iff_of_eq (first_point t)) rfl hf6)).trans (accD_step Vr c t d6))
  isplitr; · itrivial
  isplitl [HO]
  · icases HO with ⟨%W, -, HO⟩
    iexists W; isplitr
    · ipureintro; exact fun _ _ => Or.inl (Set.mem_univ _)
    iexact HO
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists g5; isplitr; · ipureintro; exact e5
    iexact H5
  iexists g6; isplitr; · ipureintro; exact e6
  iexact H6

end Region

end Cert.Proof.Run

end
-- ==== Proof.RegionWp.lean ====
/-
  The TensorCore call on its core: the unscoped buffers held, before the region at any contents, after it with the two
  accumulators' arrays as the pipeline leaves them.
-/
module

public import proofs.«01_k».proof.Proof.Region
public import Idealize.ShloMosaic.Lib.SparseCore

@[expose] public section

noncomputable section

namespace Cert.Proof.Run

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig (HIx 1) (Elt F) ℕ UU ℕ

/-- The TensorCore's unscoped references, as device buffers: the set the host operations run within. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- An operation on TensorCore references only touches unscoped ones only (a host operation names no scoped buffer). -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The region's arrays are unscoped buffers. -/
theorem arrRefs_sub : Pipeline.arrRefs spec1 ⊆ ucRefs := by
  intro b hb
  obtain ⟨r, hr, rfl⟩ := Finset.mem_map.mp hb
  obtain ⟨w, -, rfl⟩ := Finset.mem_image.mp hr
  exact Finset.mem_filter.mpr ⟨Finset.mem_map.mpr ⟨_, Finset.mem_univ _, rfl⟩, by
    have := winFacts1.arr_unscoped w
    exact fun h => Bool.false_ne_true (this.symm.trans h)⟩

abbrev adm : (p : Fin 1) → (pcfgs (F := F) p).Adm := fun p => (cfgs p).toPCfg_adm

section RegionWp

variable (Vr : Dev nD → Valuation τ sig (Elt F))

set_option backward.isDefEq.respectTransparency.types false in
/-- The region's record over the unscoped buffers. -/
def reg : Pipeline.RegionSeg (pcfgs (F := F)) adm (dats Vr) none defs₀ 𝒱₀ (K (F := F)).L (K (F := F)).lev 0 :=
  Pipeline.RegionSeg.ofHeldIn (pcfgs (F := F)) adm (dats Vr) none defs₀ 𝒱₀ (K (F := F)).L (K (F := F)).lev 0 (fun _ => 0) ucRefs
    (fun _ => iprop(emp)) (fun _ => iprop(emp)) launch1.toP rfl (fun c => (body_obligation Vr c).loose) (fun _ _ => rfl) (fun _ => rfl)
    (fun c => (dats Vr 0 c).share_full fun _ => rfl)
    (fun c => by
      show iprop(Pipeline.scopedRest spec1 c ∗ emp) ⊢ iprop(emp)
      rw [scopedRest1_eq]; exact sep_elim_left)
    (fun c => by
      show iprop(emp) ⊢ iprop(Pipeline.scopedRest spec1 c ∗ emp)
      rw [scopedRest1_eq]; iintro -; isplitr <;> iempintro)
    (fun _ => 0) ⟨fun _ _ _ => Finset.mem_univ _, fun _ _ _ => Nat.le_refl _, fun _ _ _ h => absurd h (Nat.lt_irrefl 0)⟩ (fun _ => iprop(emp)) Vr (fun c w => A_eq Vr c w)

/-- No signal of the launch is owed after its one call. -/
theorem Otc_one (d : Dev nD) : (K (F := F)).Otc d 1 = 0 := by
  unfold SparseCore.Cfg.Otc
  exact Finset.sum_eq_zero fun q _ => if_neg (by have := q.isLt; omega)

/-- The waits on a TensorCore's semaphores lie at most at the launch's second level. -/
theorem WBelow_one (d : Dev nD) (W) : (K (F := F)).WBelow (T d) W (8 * 1) := by
  rintro ⟨s, ix⟩ -
  cases ix with
  | none => exact Nat.zero_le _
  | some q =>
    have hq : q.val = 0 := by have := q.isLt; omega
    show 8 * q.val + 6 + 1 ≤ 8
    omega

set_option backward.isDefEq.respectTransparency.types false in
/-- The region is entered from the unscoped buffers held, -/
theorem reg_pre (c : Dev nD) : iprop(StableHlo.held (T c) ucRefs (Vr c) ∗ ((∃ Wd, owes (T c) (0 : CellTallies nD τ sig (HIx 1)) Wd) ∗ emp ∗ emp)) ⊢ (reg Vr).pre c := by
  unfold reg
  refine BIBase.Entails.trans ?_ (Pipeline.RegionSeg.ofHeldIn_pre (pcs := pcfgs (F := F)) (a := adm) (pdats := dats Vr) (p := 0) (S := ucRefs) (show Pipeline.arrRefs (pcfgs (F := F) 0).spec ⊆ ucRefs from arrRefs_sub) (D := fun _ => 0) (X := fun _ => iprop(emp)) (R := fun _ => iprop(emp)) (W := Vr) c)
  exact Entails.of_eq rfl

set_option backward.isDefEq.respectTransparency.types false in
/-- and left with them held, the accumulators' arrays as the pipeline leaves them. -/
theorem reg_post (c : Dev nD) : (reg Vr).post c ⊢ iprop(StableHlo.held (T c) ucRefs (Pipeline.afterRegion (dats Vr 0 c) (Vr c)) ∗ ((∃ Wd, owes (T c) (0 : CellTallies nD τ sig (HIx 1)) Wd) ∗ emp ∗ emp)) := by
  unfold reg
  exact Pipeline.RegionSeg.ofHeldIn_post (pcs := pcfgs (F := F)) (a := adm) (pdats := dats Vr) (p := 0) (S := ucRefs) (show Pipeline.arrRefs (pcfgs (F := F) 0).spec ⊆ ucRefs from arrRefs_sub) c

/-- The TensorCore call's step in the program without the SparseCore labels. -/
theorem region_wp₀ [∀ e, Nonempty (Elt F e)] (d : Dev nD) (Φ : PUnit → sProp 𝕄) :
    iprop((iprop(boundary (T d) ∗ (reg Vr).post d) -∗ Φ ⟨⟩) ∗ boundary (T d) ∗ (reg Vr).pre d ∗ levAts (K (F := F)).L (K (F := F)).lev
      ∗ Pipeline.cellsGhost (Pipeline.pin (pcfgs (F := F)) adm) EP 0 d ∗ Pipeline.toksInit (Pipeline.pin (pcfgs (F := F)) adm) EP 0 d)
      ⊢ wp frame (wpE D 𝒱 (T d) none) Set.univ (Prog.lift (.customCall (Pipeline.entry 0) ())) Φ := by
  have h := Pipeline.RegionSeg.wp (pcfgs (F := F)) adm (dats Vr) none cellOf_inj EP defs₀ 𝒱₀ (K (F := F)).L (K (F := F)).lev (reg Vr) d none (fun _ hu => nomatch hu) .ret Φ
  rw [wp_ret] at h
  refine BIBase.Entails.trans ?_ h
  iintro ⟨H, H1, H2, H3, H4, H5⟩
  isplitl [H]
  · iintro H'; imodintro; iapply H; iexact H'
  isplitl [H1]; · iexact H1
  isplitl [H2]; · iexact H2
  isplitl [H3]; · iexact H3
  isplitl [H4]; · iexact H4
  iexact H5

/-- The TensorCore call, in the program without the SparseCore labels. -/
def callTc : Prog (TpuEff nD τ sig (Elt F) (ΛP (F := F)) .tc) PUnit := Prog.lift (.customCall (Pipeline.entry 0) ())
theorem callTc_lift : (Prog.lift (.customCall (SparseCore.inner (Pipeline.entry 0)) ()) : Prog (TpuEff nD τ sig (Elt F) (SparseCore.Sig (ΛP (F := F)) 1) .tc) PUnit)
    = SparseCore.liftProg (callTc (F := F)) := rfl

/-- The TensorCore call's step on its core. -/
theorem region_wp [∀ e, Nonempty (Elt F e)] (d : Dev nD) (Φ : PUnit → sProp 𝕄) :
    iprop((K (F := F)).tcSt EH d 1 ∗ boundary (T d) ∗ StableHlo.held (T d) ucRefs (Vr d) ∗ levAts (K (F := F)).L (K (F := F)).lev
      ∗ (Pipeline.cellsGhost (Pipeline.pin (pcfgs (F := F)) adm) EP 0 d ∗ Pipeline.toksInit (Pipeline.pin (pcfgs (F := F)) adm) EP 0 d)
      ∗ (iprop((K (F := F)).tcSt EH d 1 ∗ boundary (T d) ∗ StableHlo.held (T d) ucRefs (Pipeline.afterRegion (dats Vr 0 d) (Vr d))) -∗ Φ ⟨⟩))
      ⊢ wp frame (wpE ((K (F := F)).defs D) 𝒱 (T d) none) Set.univ (Prog.lift (.customCall (SparseCore.inner (Pipeline.entry 0)) ())) Φ := by
  have hl := (K (F := F)).wp_liftProg D 𝒱 (T d) Set.univ none (callTc (F := F)) Φ
  rw [callTc_lift]
  refine BIBase.Entails.trans ?_ hl
  have hpre := reg_pre Vr d
  have hpost := reg_post Vr d
  unfold SparseCore.Cfg.tcSt
  rw [Otc_one]
  iintro ⟨⟨⟨%W, -, HO⟩, Ha, Hr, Hs, Hd⟩, Hb, Hh, Hl, ⟨Hc, Ht⟩, HΦ⟩
  unfold callTc
  iapply region_wp₀ Vr d Φ
  isplitl [Ha Hr Hs Hd HΦ]
  · iintro ⟨Hb, Hp⟩
    ihave Hp := hpost $$ Hp
    icases Hp with ⟨Hh, ⟨%W', HO⟩, -, -⟩
    iapply HΦ
    isplitl [HO Ha Hr Hs Hd]
    · isplitl [HO]
      · iexists W'; isplitr
        · ipureintro; exact WBelow_one d W'
        iexact HO
      isplitl [Ha]; · iexact Ha
      isplitl [Hr]; · iexact Hr
      isplitl [Hs]; · iexact Hs
      iexact Hd
    isplitl [Hb]; · iexact Hb
    iexact Hh
  isplitl [Hb]; · iexact Hb
  isplitl [HO Hh]
  · iapply hpre
    isplitl [Hh]; · iexact Hh
    isplitl [HO]; · iexists W; iexact HO
    isplitr <;> iempintro
  isplitl [Hl]; · iexact Hl
  isplitl [Hc]; · iexact Hc
  iexact Ht

end RegionWp

end Cert.Proof.Run

end
-- ==== Proof.Main.lean ====
/-
  The whole program's run: @main on the TensorCore (host operations, the SparseCore call, the TensorCore call, host
  operations) and the launch theorem applied to it.
-/
module

public import proofs.«01_k».proof.Proof.Host
public import proofs.«01_k».proof.Proof.Pay
public import proofs.«01_k».proof.Proof.RegionWp

@[expose] public section

noncomputable section

namespace Cert.Proof.Run

open Cert.KernelIdeal Cert.KernelIdeal.Gen
open Idealize.ShloMosaic
open Idealize.ShloMosaic.TcCoe
open Idealize.ShloMosaic.StableHlo (seq after held)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig (HIx 1) (Elt F) ℕ UU ℕ

theorem opsA_fresh : (opsA (F := F)).Forall fun op => op.fresh = ∅ := by
  simp only [opsA, List.Forall]; repeat' first | exact rfl | apply And.intro
theorem opsC_fresh : (opsC (F := F)).Forall fun op => op.fresh = ∅ := by
  simp only [opsC, List.Forall]; repeat' first | exact rfl | apply And.intro

variable (m : (ℓ : Loc nD τ sig) → Buf (Elt F) ℓ) (ρ : Dev nD → PrngReg)

/-! ## The buffers' contents from launch to end -/

/-- The bitmap, the flat ids and the mask, as device buffers. -/
abbrev bmR : DevRef τ sig := Proc.devRef .tc main_v41
abbrev idR : DevRef τ sig := Proc.devRef .tc main_v40
abbrev outR : DevRef τ sig := Proc.devRef .tc main_v42

/-- At launch; when the SparseCore call is reached; after it; when the TensorCore call is reached; after it; at the end. -/
def V0 (d : Dev nD) : Valuation τ sig (Elt F) := fun b => m (d, b)
def V1 (d : Dev nD) : Valuation τ sig (Elt F) := after opsA (V0 m d)
/-- The bitmap and the ids the SparseCore call reads. -/
def BM (d : Dev nD) : S12800000.Idx → BitVec 32 := V1 m d bmR
def ID (d : Dev nD) : S8192.Idx → BitVec 32 := V1 m d idR
def V2 (d : Dev nD) : Valuation τ sig (Elt F) := Function.update (V1 m d) outR (gout (BM m d) (ID m d) : S16777216.Idx → F .f32)
def V3 (d : Dev nD) : Valuation τ sig (Elt F) := after opsB (V2 m d)
def V4 (d : Dev nD) : Valuation τ sig (Elt F) := Pipeline.afterRegion (dats (V3 m) 0 d) (V3 m d)
def V5 (d : Dev nD) : Valuation τ sig (Elt F) := after opsC (V4 m d)

/-! ## The SparseCore call's buffers among the held ones -/

abbrev S3 : Finset (DevRef τ sig) := {bmR, idR, outR}

theorem S3_sub : S3 ⊆ ucRefs := by
  intro b hb
  rcases Finset.mem_insert.mp hb with rfl | hb
  · exact Finset.mem_filter.mpr ⟨Finset.mem_map.mpr ⟨_, Finset.mem_univ _, rfl⟩, by decide⟩
  rcases Finset.mem_insert.mp hb with rfl | hb
  · exact Finset.mem_filter.mpr ⟨Finset.mem_map.mpr ⟨_, Finset.mem_univ _, rfl⟩, by decide⟩
  rw [Finset.mem_singleton.mp hb]
  exact Finset.mem_filter.mpr ⟨Finset.mem_map.mpr ⟨_, Finset.mem_univ _, rfl⟩, by decide⟩

theorem held_S3 (d : Dev nD) (W : Valuation τ sig (Elt F)) :
    (held (T d) S3 W : sProp 𝕄) = iprop((bmLoc d ↦{fullShare} W bmR) ∗ (idLoc d ↦{fullShare} W idR) ∗ (outLoc d ↦{fullShare} W outR)) := by
  unfold held S3
  rw [SparseCore.bigSep_insert' (by decide), SparseCore.bigSep_insert' (by decide), bigSep_singleton]

theorem V2_bm (d : Dev nD) : V2 m d bmR = BM m d := Function.update_of_ne (show bmR ≠ outR by decide) _ _
theorem V2_id (d : Dev nD) : V2 m d idR = ID m d := Function.update_of_ne (show idR ≠ outR by decide) _ _
theorem V2_out (d : Dev nD) : V2 m d outR = (gout (BM m d) (ID m d) : S16777216.Idx → F .f32) := Function.update_self _ _ _

theorem held_V2 (d : Dev nD) : (held (T d) ucRefs (V2 m d) : sProp 𝕄)
    = iprop(((bmLoc d ↦{fullShare} BM m d) ∗ (idLoc d ↦{fullShare} ID m d) ∗ (outLoc d ↦{fullShare} (gout (BM m d) (ID m d) : S16777216.Idx → F .f32)))
      ∗ held (T d) (ucRefs \ S3) (V1 m d)) := by
  rw [StableHlo.held_sub_split (T d) S3_sub (V2 m d), held_S3, V2_bm, V2_id, V2_out,
    StableHlo.held_congr (T d) (S := ucRefs \ S3) (V := V2 m d) (V' := V1 m d) fun b hb =>
      Function.update_of_ne (fun h => (Finset.mem_sdiff.mp hb).2 (by rw [h]; exact Finset.mem_insert_of_mem (Finset.mem_insert_of_mem (Finset.mem_singleton_self _)))) _ _]
theorem held_V1 (d : Dev nD) : (held (T d) ucRefs (V1 m d) : sProp 𝕄)
    = iprop(((bmLoc d ↦{fullShare} BM m d) ∗ (idLoc d ↦{fullShare} ID m d) ∗ (outLoc d ↦{fullShare} (V1 m d outR)))
      ∗ held (T d) (ucRefs \ S3) (V1 m d)) := by
  rw [StableHlo.held_sub_split (T d) S3_sub (V1 m d), held_S3]; rfl

/-- What the call takes for the two SparseCores, and what it hands back. -/
theorem st_intro (d : Dev nD) (f : Buf (Elt F) (outLoc d)) :
    iprop((bigSep Finset.univ fun c : Fin 2 => (bmLoc d ↦{coreTok c} BM m d : sProp 𝕄)) ∗ (bigSep Finset.univ fun c : Fin 2 => idLoc d ↦{coreTok c} ID m d) ∗ (outLoc d ↦{fullShare} f))
      ⊢ bigSep Finset.univ fun c : Fin ((K (F := F)).nCore 0) => (P (F := F) (BM m) (ID m)).st 0 d c := by
  show _ ⊢ bigSep (Finset.univ : Finset (Fin 2)) fun c => stRes (F := F) (BM m) (ID m) d c
  rw [out_cores, ← bigSep_sep', ← bigSep_sep']
  refine bigSep_mono fun c _ => ?_
  have h : iprop((bmLoc d ↦{coreTok c} BM m d) ∗ (idLoc d ↦{coreTok c} ID m d) ∗ (outLoc d ↦[coreSet c.val]{fullShare} f)) ⊢ (stRes (F := F) (BM m) (ID m) d c : sProp 𝕄) := by
    unfold stRes
    iintro ⟨H1, H2, H3⟩
    isplitl [H1]; · iexact H1
    isplitl [H2]; · iexact H2
    iexists f; iexact H3
  exact h
theorem dn_elim (d : Dev nD) :
    (bigSep Finset.univ fun c : Fin ((K (F := F)).nCore 0) => (P (F := F) (BM m) (ID m)).dn 0 d c)
      ⊢ iprop((bigSep Finset.univ fun c : Fin 2 => (bmLoc d ↦{coreTok c} BM m d : sProp 𝕄)) ∗ (bigSep Finset.univ fun c : Fin 2 => idLoc d ↦{coreTok c} ID m d)
        ∗ (outLoc d ↦{fullShare} (gout (BM m d) (ID m d) : S16777216.Idx → F .f32))) := by
  show (bigSep (Finset.univ : Finset (Fin 2)) fun c => dnRes (F := F) (BM m) (ID m) d c) ⊢ _
  rw [out_cores, ← bigSep_sep', ← bigSep_sep']
  exact Entails.of_eq rfl

/-! ## The launch element -/

def u₀ : UU := (initOf (K (F := F)).hsCells (K (F := F)).hsToks,
  (initOf (Pipeline.cells cfgs cellOf_inj) (Pipeline.launchToks cfgs cellOf_inj), 1))

abbrev G (d : Dev nD) : sProp 𝕄 := iprop(Pipeline.cellsGhost cfgs EP 0 d ∗ Pipeline.toksInit cfgs EP 0 d)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) (BM m) (ID m)).x q thr) := by
  unfold u₀
  iintro Hu
  ihave H := (ownU_pair _ _) $$ Hu
  icases H with ⟨HH, HP⟩
  have hg : BI.own ((embR : Emb (UP × Counters) 𝕄) (initOf (Pipeline.cells cfgs cellOf_inj) (Pipeline.launchToks cfgs cellOf_inj), 1)) ⊢ (|==> (bigSep Finset.univ fun d : Dev nD => G (F := F) d) : sProp 𝕄) := by
    refine BIBase.Entails.trans (show _ ⊢ _ from Pipeline.fund_ghost cfgs EP cellOf_inj) ?_
    rw [bigSep_sep']
    simp only [show (Finset.univ : Finset (Fin 1)) = {0} from rfl, bigSep_singleton]
    iintro H; iexact H
  imod hg $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## @main -/

abbrev FIN (d : Dev nD) : sProp 𝕄 := held (T d) ucRefs (V5 m d)

theorem hmain [∀ e, Nonempty (Elt F e)] (κ : GSem nD τ sig → ℕ) (d : Dev nD) :
    iprop((K (F := F)).ctx EH (P (F := F) (BM m) (ID m)) κ ∗ (K (F := F)).tcSt EH d 0 ∗ (K (F := F)).tcRes m ρ d ∗ G (F := F) d)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (V0 m d) from unscopedBufs_held d (V0 m d), main_eq]
  iintro ⟨#Hctx, Hst, ⟨Hb, Hheld, Hts, -⟩, HG⟩
  iapply (StableHlo.wp_seq (defs := (K (F := F)).defs D) 𝒱 none Set.univ d ucRefs _ opsA (fun op h => sub_ucRefs op (List.forall_iff_forall_mem.mp opsA_sub op h)) (List.forall_iff_forall_mem.mp opsA_fresh) (V0 m d)) $$ [Hb Hheld]
  · isplitl [Hb]; · iexact Hb
    iexact Hheld
  iintro ⟨Hb, Hheld⟩
  have hV1 : (held d.tc ucRefs (after opsA (V0 m d)) : sProp 𝕄) = _ := held_V1 m d
  ihave Hh := (Entails.of_eq hV1) $$ Hheld
  icases Hh with ⟨⟨Hbm, Hid, Hout⟩, Hrest⟩
  ihave Hbm := (Transfers.pointsTo_toks_split fullShare 2) $$ Hbm
  ihave Hid := (Transfers.pointsTo_toks_split fullShare 2) $$ Hid
  icases Hbm with ⟨Hbd, Hbm⟩
  icases Hid with ⟨Hidd, Hid⟩
  rw [wp_bind]
  iapply ((K (F := F)).wp_run D 𝒱 (EH := EH) (P := P (F := F) (BM m) (ID m)) κ d 0)
  isplitr; · iexact Hctx
  isplitl [Hst]; · iexact Hst
  isplitl [Hbm Hid Hout]
  · iapply (st_intro m d (V1 m d outR))
    isplitl [Hbm]; · iexact Hbm
    isplitl [Hid]; · iexact Hid
    iexact Hout
  iintro ⟨Hst, Hdn⟩
  ihave Hdn' := (dn_elim m d) $$ Hdn
  icases Hdn' with ⟨Hbm, Hid, Hout⟩
  ihave Hbm := (Transfers.pointsTo_toks_join (ℓ := bmLoc d) (S := Finset.univ) (f := BM m d) fullShare 2) $$ [Hbd Hbm]
  · isplitl [Hbd]; · iexact Hbd
    iexact Hbm
  ihave Hid := (Transfers.pointsTo_toks_join (ℓ := idLoc d) (S := Finset.univ) (f := ID m d) fullShare 2) $$ [Hidd Hid]
  · isplitl [Hidd]; · iexact Hidd
    iexact Hid
  ihave Hheld := (Entails.of_eq (held_V2 m d).symm) $$ [Hbm Hid Hout Hrest]
  · isplitr [Hrest]
    · isplitl [Hbm]; · iexact Hbm
      isplitl [Hid]; · iexact Hid
      iexact Hout
    iexact Hrest
  iapply (StableHlo.wp_seq (defs := (K (F := F)).defs D) 𝒱 none Set.univ d ucRefs _ opsB (fun op h => sub_ucRefs op (List.forall_iff_forall_mem.mp opsB_sub op h)) (fun op h => by rw [List.mem_singleton.mp h]; rfl) (V2 m d)) $$ [Hb Hheld]
  · isplitl [Hb]; · iexact Hb
    iexact Hheld
  iintro ⟨Hb, Hheld⟩
  rw [wp_bind]
  iapply (region_wp (V3 m) d)
  isplitl [Hst]; · iexact Hst
  isplitl [Hb]; · iexact Hb
  isplitl [Hheld]; · iexact Hheld
  isplitr; · iapply ((K (F := F)).ctx_levAts κ); iexact Hctx
  isplitl [HG]; · iexact HG
  iintro ⟨Hst, Hb, Hheld⟩
  rw [← bind_pure (seq opsC)]
  iapply (StableHlo.wp_seq (defs := (K (F := F)).defs D) 𝒱 none Set.univ d ucRefs _ opsC (fun op h => sub_ucRefs op (List.forall_iff_forall_mem.mp opsC_sub op h)) (List.forall_iff_forall_mem.mp opsC_fresh) (V4 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-- Every unscoped buffer ends at its final contents. -/
def fq (d : Dev nD) (s' : Phys nD τ sig (Elt F)) : Prop := ∀ b ∈ ucRefs, s'.mem.mem (d, b) = V5 m d b

theorem hfin (d : Dev nD) (s' : Phys nD τ sig (Elt F)) : iprop(FIN m d ∗ SI s') ⊢ (⌜fq m d s'⌝ : sProp 𝕄) := by
  unfold fq
  refine BIBase.Entails.trans ?_ pure_forall.2
  refine forall_intro fun b => ?_
  refine BIBase.Entails.trans ?_ pure_forall.2
  refine forall_intro fun hb => ?_
  have he : (FIN m d : sProp 𝕄) ⊢ ((d, b) ↦{fullShare} V5 m d b) := bigSep_elim (Φ := fun b => ((d, b) ↦{fullShare} V5 m d b)) hb
  iintro ⟨Hh, HSI⟩
  ihave Hx := he $$ Hh
  ihave H := (SI_pointsTo_agree (st := s') (ℓ := (d, b)) (I := Finset.univ) (q := fullShare) (f := V5 m d b)) $$ [HSI Hx]
  · isplitl [HSI] <;> iassumption
  icases H with %hx
  ipureintro; exact funext fun i => hx i (Finset.mem_univ i)

/-- The run's result: every unscoped buffer at its final contents, every semaphore at zero. -/
def QC : PUnit × MemSt nD τ sig (Elt F) → Prop := fun r => (∀ c : Dev nD, ∀ b ∈ ucRefs, r.2.mem (c, b) = V5 m c b) ∧ r.2.sem = fun _ => 0

theorem run_main [∀ e, Nonempty (Elt F e)] (hids : ∀ d n, (idAt (ID m d) n).toNat < 20000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (BM m) (ID m)) (A := ∅) facts v₀
    (fun q hq => match q with | 0 => nomatch hq)
    (fun q _ => match q with | 0 => tileObl (BM m) (ID m) hids)
    (fun q _ => match q with | 0 => SparseCore.Cfg.VecSplit.of_plain (vecSplit (BM m) (ID m)))
    m ρ main (fun d => G (F := F) d) (FIN m) (u₀ (F := F)) (sep_elim_left.trans (hu₀ m)) (hmain m ρ) (fq m) (hfin m) (QC m) (fun _ h hz => ⟨h, hz⟩)

end Cert.Proof.Run

end
-- ==== Proof.SameText.lean ====
/-
  The kernel and the idealized kernel are one program: no operation was rewritten, so the two tables of bodies and the
  two families of threads are equal, at any float values.
-/
module

public import proofs.«01_k».proof.Proof.Gen.KernelIdeal
public import proofs.«01_k».proof.Proof.Gen.Kernel

@[expose] public section

noncomputable section

namespace Cert.Proof.Same

open Idealize.ShloMosaic Idealize.SL.Sem

variable {F : FTy → Type} [FloatOps F]

/-- The SparseCore kernel's body. -/
theorem cc0_eq : @Cert.Kernel.cc0__sc_mask_kernel F _ Cert.Kernel.Gen.facts = @Cert.KernelIdeal.cc0__sc_mask_kernel F _ Cert.KernelIdeal.Gen.facts := rfl

open Cert.KernelIdeal Cert.KernelIdeal.Facts₀ Cert.KernelIdeal.Facts in
/-- Equal bodies are equal on every tile. -/
theorem tile_key (k k' : type_of% (@Cert.KernelIdeal.cc0__sc_mask_kernel F _ Cert.KernelIdeal.Gen.facts)) (h : k = k') (c s) :
    SparseCore.onTile hcore0 hsub0 (fun c s => k (fun | 0 => c | 1 => s | ⟨_ + 2, h⟩ => absurd h (Nat.not_lt.2 (Nat.le_add_left _ _))) (Memref.whole main_v41_scv) (Memref.isWhole_whole _) (Memref.whole main_v40_scv) (Memref.isWhole_whole _) (Memref.whole main_v42_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3) PUnit.unit c s
      = SparseCore.onTile hcore0 hsub0 (fun c s => k' (fun | 0 => c | 1 => s | ⟨_ + 2, h⟩ => absurd h (Nat.not_lt.2 (Nat.le_add_left _ _))) (Memref.whole main_v41_scv) (Memref.isWhole_whole _) (Memref.whole main_v40_scv) (Memref.isWhole_whole _) (Memref.whole main_v42_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3) PUnit.unit c s := by rw [h]
/-- The table's entry for the SparseCore kernel on a tile. -/
theorem tile_eq (c s) (a) : Cert.Kernel.defs₀ (F := F) (.scVector c s) 0 a = Cert.KernelIdeal.defs₀ (F := F) (.scVector c s) 0 a :=
  tile_key (@Cert.Kernel.cc0__sc_mask_kernel F _ Cert.Kernel.Gen.facts) (@Cert.KernelIdeal.cc0__sc_mask_kernel F _ Cert.KernelIdeal.Gen.facts) cc0_eq c s
/-- The table's other entry on a tile. -/
theorem tile1_eq (c s) : Cert.Kernel.defs₀ (F := F) (.scVector c s) 1 = Cert.KernelIdeal.defs₀ (F := F) (.scVector c s) 1 := rfl
/-- The table's entries on a sequencer. -/
theorem scalar_eq (c ℓ) : Cert.Kernel.defs₀ (F := F) (.scScalar c) ℓ = Cert.KernelIdeal.defs₀ (F := F) (.scScalar c) ℓ := rfl
/-- The table's unused entry on the TensorCore. -/
theorem tc0_eq : Cert.Kernel.defs₀ (F := F) .tc 0 = Cert.KernelIdeal.defs₀ (F := F) .tc 0 := rfl
/-- The table's entry for the TensorCore kernel. -/
theorem tc1_eq : Cert.Kernel.defs₀ (F := F) .tc 1 = Cert.KernelIdeal.defs₀ (F := F) .tc 1 := rfl

/-- The kernels' body tables are equal. -/
theorem defs₀_eq : Cert.Kernel.defs₀ (F := F) = Cert.KernelIdeal.defs₀ (F := F) := by
  funext p ℓ a
  revert a
  cases p with
  | tc => match ℓ with
    | 0 => exact fun a => congrFun tc0_eq a
    | 1 => exact fun a => congrFun tc1_eq a
  | scScalar c => exact fun a => congrFun (scalar_eq c ℓ) a
  | scVector c s => match ℓ with
    | 0 => exact fun a => tile_eq c s a
    | 1 => exact fun a => congrFun (tile1_eq c s) a
/-- The whole programs' body tables are equal. -/
theorem defs_eq : Cert.Kernel.defs (F := F) = Cert.KernelIdeal.defs (F := F) :=
  congrArg (fun d => Cert.KernelIdeal.sc.defs (Pipeline.defs Cert.KernelIdeal.pcfgs d)) defs₀_eq

set_option maxHeartbeats 2000000 in
/-- The host program, first part. -/
theorem part0_eq (d) : @Cert.Kernel.main_part0 F _ Cert.Kernel.Gen.facts d = @Cert.KernelIdeal.main_part0 F _ Cert.KernelIdeal.Gen.facts d := rfl
/-- The host program, second part. -/
theorem part1_eq (d) : @Cert.Kernel.main_part1 F _ Cert.Kernel.Gen.facts d = @Cert.KernelIdeal.main_part1 F _ Cert.KernelIdeal.Gen.facts d := rfl
/-- Parts run one after the other are equal where the parts are. -/
theorem then_eq {Λ : Labels} {p : Proc Cert.KernelIdeal.τ} (a a' b b' : Prog (TpuEff Cert.KernelIdeal.nD Cert.KernelIdeal.τ Cert.KernelIdeal.sig (Elt F) Λ p) PUnit)
    (h : a = a') (h' : b = b') : (do a; b) = (do a'; b') := by rw [h, h']
/-- The host programs are equal. -/
theorem main_eq : @Cert.Kernel.main F _ Cert.Kernel.Gen.facts = @Cert.KernelIdeal.main F _ Cert.KernelIdeal.Gen.facts :=
  funext fun d => then_eq _ _ _ _ (part0_eq d) (part1_eq d)
/-- The threads are equal. -/
theorem threads_eq : @Cert.Kernel.threads F _ Cert.Kernel.Gen.facts = @Cert.KernelIdeal.threads F _ Cert.KernelIdeal.Gen.facts :=
  congrArg (fun m => Cert.KernelIdeal.sc.threads m) main_eq

end Cert.Proof.Same

end
-- ==== Proof.Frames.lean ====
/-
  The arguments at the end of the run, and what the precondition says of them.
-/
module

public import proofs.«01_k».proof.Proof.Main
public import proofs.«01_k».proof.Defs
public import proofs.«01_k».proof.Proof.SameText
public import proofs.«01_k».proof.Proof.Gen.Pre_in_range
public import proofs.«01_k».proof.Proof.Gen.Kernel
public import proofs.«01_k».proof.Proof.Gen.ReferenceIdeal
public import proofs.«01_k».proof.Proof.Gen.ReferenceIdeal.Run
public import Idealize.ShloMosaic.Lib.ReduceAll
public import Idealize.ShloMosaic.Lib.Quiescent

@[expose] public section

noncomputable section

namespace Cert.Proof.Run

open Cert.KernelIdeal Cert.KernelIdeal.Gen
open Idealize.ShloMosaic
open Idealize.ShloMosaic.TcCoe
open Idealize.ShloMosaic.StableHlo (seq after held)
open Idealize.ShloMosaic.SparseCore (S V T)
open Idealize.SL.Sem
variable {F : FTy → Type} [FloatOps F]

/-- @main's arguments. -/
abbrev args : List (Ref sig .tc) := [main_arg0, main_arg1, main_arg2, main_arg3, main_arg4, main_arg5]

/-- A step that writes one buffer, not an argument's, writes no argument. -/
theorem single_args {y : Ref sig .tc} (h : y ∉ args) : ∀ r ∈ args, (Proc.devRef .tc r : DevRef τ sig) ∉ ({Proc.devRef .tc y} : Finset (DevRef τ sig)) :=
  fun r hr hm => h (Proc.devRef_injective _ (Finset.mem_singleton.mp hm) ▸ hr)

set_option maxRecDepth 16384 in
set_option maxHeartbeats 2000000 in
/-- No host operation writes an argument. -/
theorem opsA_args : (opsA (F := F)).Forall fun op => ∀ r ∈ args, Proc.devRef .tc r ∉ op.writes := by
  simp only [opsA, List.Forall]
  repeat' first | apply And.intro | exact single_args (by decide)
theorem opsB_args : (opsB (F := F)).Forall fun op => ∀ r ∈ args, Proc.devRef .tc r ∉ op.writes := by
  simp only [opsB, List.Forall]
  repeat' first | apply And.intro | exact single_args (by decide)
theorem opsC_args : (opsC (F := F)).Forall fun op => ∀ r ∈ args, Proc.devRef .tc r ∉ op.writes := by
  simp only [opsC, List.Forall]
  repeat' first | apply And.intro | exact single_args (by decide)

variable (m : (ℓ : Loc nD τ sig) → Buf (Elt F) ℓ)

theorem args_uc : ∀ r ∈ args, (Proc.devRef .tc r : DevRef τ sig) ∈ ucRefs := fun r hr =>
  Finset.mem_filter.mpr ⟨Finset.mem_map.mpr ⟨r, Finset.mem_univ _, rfl⟩, (by decide : ∀ r ∈ args, ¬ (Proc.devRef .tc r : DevRef τ sig).isScoped) r hr⟩

/-- An argument's buffer holds at every stage what it held at launch. -/
theorem V1_arg (d : Dev nD) (r : Ref sig .tc) (hr : r ∈ args) : V1 m d (Proc.devRef .tc r) = m (d, Proc.devRef .tc r) :=
  StableHlo.after_of_forall_not_mem opsA (V0 m d) fun op h => List.forall_iff_forall_mem.mp opsA_args op h r hr
theorem V3_arg (d : Dev nD) (r : Ref sig .tc) (hr : r ∈ args) : V3 m d (Proc.devRef .tc r) = m (d, Proc.devRef .tc r) :=
  (StableHlo.after_of_forall_not_mem opsB (V2 m d) fun op h => List.forall_iff_forall_mem.mp opsB_args op h r hr).trans
    ((Function.update_of_ne ((by decide : ∀ r ∈ args, (Proc.devRef .tc r : DevRef τ sig) ≠ outR) r hr) _ _).trans (V1_arg m d r hr))
theorem V5_arg (d : Dev nD) (r : Ref sig .tc) (hr : r ∈ args) : V5 m d (Proc.devRef .tc r) = m (d, Proc.devRef .tc r) :=
  (StableHlo.after_of_forall_not_mem opsC (V4 m d) fun op h => List.forall_iff_forall_mem.mp opsC_args op h r hr).trans
    ((Pipeline.afterRegion_keeps (dats (V3 m) 0 d) (V3 m d) winFacts1.arr_inj (A_eq (V3 m) d) r
      ((by decide : ∀ r ∈ args, ∀ w, Pipeline.arrRef spec1 w = r → (cfg1.win w).isOut = false) r hr)).trans (V3_arg m d r hr))

set_option maxRecDepth 16384 in
/-- The flat ids the SparseCore call reads are the ids of the first argument, row after row. -/
theorem ID_eq (d : Dev nD) : ID m d = shapeCast S8192 (m (d, Proc.devRef .tc main_arg0) : S4x2048.Idx → BitVec 32) shapeCasts_S4x2048_S8192 := by
  refine Eq.trans (b := after (opsA (F := F)) (V0 m d) (Proc.devRef .tc main_v40)) rfl ?_
  after_results_simp <;> rfl

/-- A signed comparison pair puts a word in a range of natural numbers. -/
theorem toNat_lt_of_range (x : BitVec 32) (n : ℕ) (hn : n < 2 ^ 31) (h : IntOp.andi (IntOp.cmpi .sge x 0#32) (IntOp.cmpi .slt x (BitVec.ofNat 32 n)) = 1#1) :
    x.toNat < n := by
  have h0 : BitVec.sle 0#32 x = true ∧ BitVec.slt x (BitVec.ofNat 32 n) = true := by
    revert h
    simp only [IntOp.andi, IntOp.cmpi]
    cases BitVec.sle 0#32 x <;> cases BitVec.slt x (BitVec.ofNat 32 n) <;> simp
  have h1 := h0.1
  have h2 := h0.2
  simp only [BitVec.sle, BitVec.slt, decide_eq_true_eq, BitVec.toInt_eq_toNat_cond, BitVec.toNat_ofNat] at h1 h2
  have := x.isLt
  rw [Nat.mod_eq_of_lt (by omega : n < 2 ^ 32)] at h2
  split at h2 <;> split at h2 <;> simp_all <;> omega

/-- The precondition's two ranges: every id is below 20000 and every key below 400000000. -/
theorem pre_ranges {x0 : S4x2048.Idx → BitVec 32} {x1 x2 : S4x2048.Idx → BitVec 1} {x3 x4 : FVec F S4x2048x64 .f32} {x5 : S131072.Idx → BitVec 32}
    (h : Cert.Pre_in_range.fn x0 x1 x2 x3 x4 x5 = fun _ => 1#1) : (∀ i, (x0 i).toNat < 20000) ∧ ∀ i, (x5 i).toNat < 400000000 := by
  have e := congrFun h (Fin.elim0 ·)
  have e' := (IntOp.andi_eq_one.mp e)
  haveI : Subsingleton (S_.Idx) := ⟨fun a b => funext fun i => i.elim0⟩
  exact ⟨fun i => toNat_lt_of_range _ 20000 (by decide) (Host.reduce_andi_all _ _ _ _ _ e'.1 i),
    fun i => toNat_lt_of_range _ 400000000 (by decide) (Host.reduce_andi_all _ _ _ _ _ e'.2 i)⟩

/-- Under the precondition every id the SparseCore call reads is a row of the bitmap. -/
theorem ids_lt (h : ∀ d i, (m (d, Proc.devRef .tc main_arg0) i : BitVec 32).toNat < 20000) (d : Dev nD) (n : ℕ) : (idAt (ID m d) n).toNat < 20000 := by
  rw [ID_eq]
  exact h d _

end Cert.Proof.Run

namespace Cert.Proof

open Idealize.ShloMosaic Idealize.SL.Sem Cert.Proof.Run

/-- The arguments are unchanged and every counter is zero at the end of a run. -/
theorem frame_of_run {F : FTy → Type} [FloatOps F] (m : (ℓ : Loc Cert.KernelIdeal.nD Cert.KernelIdeal.τ Cert.KernelIdeal.sig) → Buf (Elt F) ℓ)
    {r} (h : QC m r) (c : Dev Cert.KernelIdeal.nD) (b) (hb : b ∈ args) : r.2.mem (c, Proc.devRef .tc b) = m (c, Proc.devRef .tc b) :=
  (h.1 c _ (args_uc b hb)).trans (V5_arg m c b hb)

/-- A run of one table of bodies and one family of threads is a run of any equal to them. -/
theorem θ_run_congr {Λ : Labels} {D D' : Defs Cert.KernelIdeal.nD Cert.KernelIdeal.τ Cert.KernelIdeal.sig (Elt Bits) Λ}
    {t t' : (c : Thread Cert.KernelIdeal.nD Cert.KernelIdeal.τ) → Prog (TpuEff Cert.KernelIdeal.nD Cert.KernelIdeal.τ Cert.KernelIdeal.sig (Elt Bits) Λ c.2) PUnit}
    (hD : D = D') (ht : t = t') {σ} {Q} (h : θ_run D' t' σ Q) : θ_run D t σ Q := by rw [hD, ht]; exact h

/-- The kernel's frame: under the index ranges it ends with its arguments unchanged and its counters zero. -/
theorem frame_kernel : Cert.quiescent_Kernel := fun m ρ hp =>
  θ_run_congr (Same.defs_eq (F := Bits)) (Same.threads_eq (F := Bits)) <|
  (θ_run Cert.KernelIdeal.defs _ _).mono
    (fun _ h => ⟨fun c => ⟨frame_of_run m h c _ (by decide), frame_of_run m h c _ (by decide), frame_of_run m h c _ (by decide),
      frame_of_run m h c _ (by decide), frame_of_run m h c _ (by decide), frame_of_run m h c _ (by decide)⟩, h.2⟩)
    (run_main (F := Bits) m ρ (ids_lt m fun d => (pre_ranges (hp d)).1))

/-- The idealized kernel's frame. -/
theorem frame_kernelIdeal : Cert.quiescent_KernelIdeal := fun m ρ hp =>
  (θ_run Cert.KernelIdeal.defs _ _).mono
    (fun _ h => ⟨fun c => ⟨frame_of_run m h c _ (by decide), frame_of_run m h c _ (by decide), frame_of_run m h c _ (by decide),
      frame_of_run m h c _ (by decide), frame_of_run m h c _ (by decide), frame_of_run m h c _ (by decide)⟩, h.2⟩)
    (run_main (F := Ideal) m ρ (ids_lt m fun d => (pre_ranges (hp d)).1))

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof

end
-- ==== Proof.Blocks.lean ====
/-
  What the TensorCore call's operands hold at a grid point, element by element.
-/
module

public import Idealize.ShloMosaic.Lib.Pointwise
public import Idealize.ShloMosaic.Lib.Pipeline.ValueKit.Geometry
public import proofs.«01_k».proof.Proof.Main

@[expose] public section

noncomputable section

namespace Cert.Proof.Run

open Cert.KernelIdeal Cert.KernelIdeal.Gen
open Idealize.ShloMosaic
open Idealize.ShloMosaic.TcCoe
open Idealize.SL.Sem

variable {F : FTy → Type} [FloatOps F] (Vr : Dev nD → Valuation τ sig (Elt F)) (c : Dev nD)

/-- The batch a grid point works on. -/
def batch (t : Fin cfg1.N) : Fin 4 := ⟨t.val / 8, by have : t.val < 32 := t.isLt; omega⟩
/-- The row that row `i` of a grid point's block is. -/
def row (t : Fin cfg1.N) (i : Fin 256) : Fin 2048 := ⟨t.val % 8 * 256 + i.val, by omega⟩

/-- Where the block of window 0 lies at each point. -/
theorem index_0 : ∀ t : Fin cfg1.N, win1_0.index t = ![t.val / 8, t.val % 8, 0] := (by decide +kernel : ∀ t : Fin grid1.N, _)
/-- Where the block of window 1 lies at each point. -/
theorem index_1 : ∀ t : Fin cfg1.N, win1_1.index t = ![t.val / 8, 0, 0] := (by decide +kernel : ∀ t : Fin grid1.N, _)
/-- Where the block of window 2 lies at each point. -/
theorem index_2 : ∀ t : Fin cfg1.N, win1_2.index t = ![t.val / 8, t.val % 8, 0] := (by decide +kernel : ∀ t : Fin grid1.N, _)
/-- Where the block of window 3 lies at each point. -/
theorem index_3 : ∀ t : Fin cfg1.N, win1_3.index t = ![t.val, 0, 0] := (by decide +kernel : ∀ t : Fin grid1.N, _)
/-- Where the block of window 4 lies at each point. -/
theorem index_4 : ∀ t : Fin cfg1.N, win1_4.index t = ![t.val / 8, 0, 0] := (by decide +kernel : ∀ t : Fin grid1.N, _)

/-- The rows' embeddings. -/
theorem stg_0_at (t : Fin cfg1.N) (i : Fin 256) (k : Fin 64) :
    (stg Vr c 0 t : S1x256x64.Idx → F .f32) (ix3 0 i k) = (Vr c (Proc.devRef .tc main_arg3) : S4x2048x64.Idx → F .f32) (ix3 (batch t) (row t i) k) := by
  unfold stg
  blk_ext [index_0, batch, row]
/-- The columns' embeddings. -/
theorem stg_1_at (t : Fin cfg1.N) (j : Fin 2048) (k : Fin 64) :
    (stg Vr c 1 t : S1x2048x64.Idx → F .f32) (ix3 0 j k) = (Vr c (Proc.devRef .tc main_arg4) : S4x2048x64.Idx → F .f32) (ix3 (batch t) j k) := by
  unfold stg
  blk_ext [index_1, batch]
/-- The mask. -/
theorem stg_2_at (t : Fin cfg1.N) (i : Fin 256) (j : Fin 2048) :
    (stg Vr c 2 t : S1x256x2048.Idx → F .f32) (ix3 0 i j) = (Vr c (Proc.devRef .tc main_v43) : S4x2048x2048.Idx → F .f32) (ix3 (batch t) (row t i) j) := by
  unfold stg
  blk_ext [index_2, batch, row]
/-- Which rows are active transcription factors. -/
theorem stg_3_at (t : Fin cfg1.N) (i : Fin 256) :
    (stg Vr c 3 t : S1x1x256.Idx → F .f32) (ix3 0 0 i) = (Vr c (Proc.devRef .tc main_v9) : S32x1x256.Idx → F .f32) (ix3 (⟨t.val, t.isLt⟩ : Fin 32) 0 i) := by
  unfold stg
  blk_ext [index_3]
/-- Which columns are active. -/
theorem stg_4_at (t : Fin cfg1.N) (j : Fin 2048) :
    (stg Vr c 4 t : S1x1x2048.Idx → F .f32) (ix3 0 0 j) = (Vr c (Proc.devRef .tc main_v7) : S4x1x2048.Idx → F .f32) (ix3 (batch t) 0 j) := by
  unfold stg
  blk_ext [index_4, batch]

end Cert.Proof.Run
-- ==== Proof.Payload.lean ====
/-
  The TensorCore kernel's arithmetic at one grid point, read element by element at the ideal values.
-/
module

public import Idealize.ShloMosaic.Lib.Pointwise
public import proofs.«01_k».proof.Proof.Gen.KernelIdeal.Skeleton

@[expose] public section

noncomputable section

namespace Cert.Proof.Run

open Cert.KernelIdeal Cert.KernelIdeal.Gen
open Idealize.ShloMosaic

/-- The cross entropy of the target `g` and the edge score `q`, whose probability is `q` held between 1e-8 and 1. -/
def crossE (g q : EReal) : EReal :=
  0 - (g * Ideal.log (min 1 (max (Ideal.ofBits FTy.f32 841731191#32) q)) + (1 - g) * Ideal.log (1 - min 1 (max (Ideal.ofBits FTy.f32 841731191#32) q)))

/-- The numerator's part of a point: the supervised losses of the block, summed. -/
theorem pay1_at (l : FVec Ideal S256x2048 .f32) (a : Vec Ideal S1x1x256 .f32) (b : Vec Ideal S1x1x2048 .f32) (acc : Vec Ideal S1x1 .f32) :
    k1_pay1 l (k1_pay8 a) (k1_pay9 b) acc (ix2 0 0)
      = acc (ix2 0 0) + ∑ i : Fin 256, ∑ j : Fin 2048, l (ix2 i j) * (a (ix3 0 0 i) * b (ix3 0 0 j)) := by
  pointwise [k1_pay1, k1_pay8, k1_pay9, k1_pay6, k1_pay7]

/-- The denominator's part of a point. -/
theorem pay2_at (a : Vec Ideal S1x1x256 .f32) (b : Vec Ideal S1x1x2048 .f32) (acc : Vec Ideal S1x1 .f32) :
    k1_pay2 (k1_pay6 a) (k1_pay7 b) acc (ix2 0 0)
      = acc (ix2 0 0) + (∑ i : Fin 256, a (ix3 0 0 i)) * (∑ j : Fin 2048, b (ix3 0 0 j)) := by
  pointwise [k1_pay2, k1_pay6, k1_pay7]

/-- The cross entropy of a block. -/
theorem pay5_at (u : Vec Ideal S1x256x64 .f32) (v : Vec Ideal S1x2048x64 .f32) (w : Vec Ideal S1x256x2048 .f32) (i : Fin 256) (j : Fin 2048) :
    k1_pay5 u v w (ix2 i j) = crossE (w (ix3 0 i j)) (∑ x : Fin 64, u (ix3 0 i x) * v (ix3 0 j x)) := by
  pointwise [k1_pay5, crossE]

end Cert.Proof.Run
-- ==== Proof.AccValue.lean ====
/-
  The TensorCore call's two accumulators after the last grid point, at the ideal values, as sums over the points.
-/
module

public import Idealize.ShloMosaic.Lib.Pipeline.ValueKit.Acc
public import proofs.«01_k».proof.Proof.Blocks
public import proofs.«01_k».proof.Proof.Payload

@[expose] public section

noncomputable section

namespace Cert.Proof.Run

open Cert.KernelIdeal Cert.KernelIdeal.Gen
open Idealize.ShloMosaic
open Idealize.ShloMosaic.TcCoe
open Idealize.ShloMosaic.StableHlo (seq after held)
open Idealize.SL.Sem

variable (Vr : Dev nD → Valuation τ sig (Elt Ideal)) (c : Dev nD)

/-- The blocks a point works on. -/
def blkU (t : Fin cfg1.N) : Vec Ideal S1x256x64 .f32 := stg Vr c 0 t
/-- The columns' embeddings. -/
def blkV (t : Fin cfg1.N) : Vec Ideal S1x2048x64 .f32 := stg Vr c 1 t
/-- The mask's block. -/
def blkM (t : Fin cfg1.N) : Vec Ideal S1x256x2048 .f32 := stg Vr c 2 t
/-- The rows' bits. -/
def blkT (t : Fin cfg1.N) : Vec Ideal S1x1x256 .f32 := stg Vr c 3 t
/-- The columns' bits. -/
def blkA (t : Fin cfg1.N) : Vec Ideal S1x1x2048 .f32 := stg Vr c 4 t

/-- A point's part of the numerator. -/
def partN (t : Fin cfg1.N) : EReal :=
  ∑ i : Fin 256, ∑ j : Fin 2048, crossE (blkM Vr c t (ix3 0 i j)) (∑ x : Fin 64, (show EReal from blkU Vr c t (ix3 0 i x)) * (show EReal from blkV Vr c t (ix3 0 j x)))
    * ((show EReal from blkT Vr c t (ix3 0 0 i)) * (show EReal from blkA Vr c t (ix3 0 0 j)))
/-- A point's part of the denominator. -/
def partD (t : Fin cfg1.N) : EReal :=
  (∑ i : Fin 256, (show EReal from blkT Vr c t (ix3 0 0 i))) * (∑ j : Fin 2048, (show EReal from blkA Vr c t (ix3 0 0 j)))

/-- A point adds its part to the numerator. -/
theorem stepN (t : Fin cfg1.N) (acc : Vec Ideal S1x1 .f32) :
    (k1_pay1 (k1_pay5 (blkU Vr c t) (blkV Vr c t) (blkM Vr c t)) (k1_pay8 (blkT Vr c t)) (k1_pay9 (blkA Vr c t)) acc (ix2 0 0) : EReal)
      = (acc (ix2 0 0) : EReal) + partN Vr c t := by
  refine (pay1_at _ _ _ _).trans (congrArg (fun x : EReal => (acc (ix2 0 0) : EReal) + x) ?_)
  refine Finset.sum_congr rfl fun i _ => Finset.sum_congr rfl fun j _ => ?_
  rw [pay5_at]
/-- A point adds its part to the denominator. -/
theorem stepD (t : Fin cfg1.N) (acc : Vec Ideal S1x1 .f32) :
    (k1_pay2 (k1_pay6 (blkT Vr c t)) (k1_pay7 (blkA Vr c t)) acc (ix2 0 0) : EReal) = (acc (ix2 0 0) : EReal) + partD Vr c t :=
  pay2_at _ _ _

/-- The accumulators' one element. -/
def elN (n : ℕ) (h : n < cfg1.N) : EReal := accN Vr c n h (ix2 0 0)
/-- The denominator's element. -/
def elD (n : ℕ) (h : n < cfg1.N) : EReal := accD Vr c n h (ix2 0 0)

/-- The numerator after the first point. -/
theorem elN_zero (h : 0 < cfg1.N) : elN Vr c 0 h = 0 + partN Vr c ⟨0, h⟩ := by
  refine Eq.trans (stepN Vr c ⟨0, h⟩ (k1_pay3 (F := Ideal))) (congrArg (fun x : EReal => x + partN Vr c ⟨0, h⟩) ?_)
  exact Ideal.ofBits_zero_f32
/-- The numerator after a later point. -/
theorem elN_succ (n : ℕ) (h : n + 1 < cfg1.N) : elN Vr c (n + 1) h = elN Vr c n (Nat.lt_of_succ_lt h) + partN Vr c ⟨n + 1, h⟩ :=
  stepN Vr c ⟨n + 1, h⟩ (accN Vr c n (Nat.lt_of_succ_lt h))
/-- The denominator after the first point. -/
theorem elD_zero (h : 0 < cfg1.N) : elD Vr c 0 h = 0 + partD Vr c ⟨0, h⟩ := by
  refine Eq.trans (stepD Vr c ⟨0, h⟩ (k1_pay4 (F := Ideal))) (congrArg (fun x : EReal => x + partD Vr c ⟨0, h⟩) ?_)
  exact Ideal.ofBits_zero_f32
/-- The denominator after a later point. -/
theorem elD_succ (n : ℕ) (h : n + 1 < cfg1.N) : elD Vr c (n + 1) h = elD Vr c n (Nat.lt_of_succ_lt h) + partD Vr c ⟨n + 1, h⟩ :=
  stepD Vr c ⟨n + 1, h⟩ (accD Vr c n (Nat.lt_of_succ_lt h))

/-- A value that starts from zero and takes a part at every point is the sum of the parts. -/
theorem sum_of_steps (f : (n : ℕ) → n < cfg1.N → EReal) (p : Fin cfg1.N → EReal) (h0 : ∀ h, f 0 h = 0 + p ⟨0, h⟩)
    (hs : ∀ n (h : n + 1 < cfg1.N), f (n + 1) h = f n (Nat.lt_of_succ_lt h) + p ⟨n + 1, h⟩) (t : Fin cfg1.N) (ht : t.val + 1 = cfg1.N) :
    f t.val t.isLt = ∑ t, p t := by
  refine (Pipeline.eq_sum_fin_of_reset_step_last f 32 0 p (fun t h => ?_) (fun t h => ?_) (le_refl 32) t ht).trans (zero_add _)
  · obtain ⟨n, hn⟩ := t
    have hn' : n < 32 := hn
    obtain rfl : n = 0 := by change n % 32 = 0 at h; omega
    exact h0 hn
  · obtain ⟨n, hn⟩ := t
    cases n with
    | zero => exact absurd rfl h
    | succ n => exact hs n hn

/-- The last point. -/
def lastPt : Fin cfg1.N := ⟨31, (by decide : 31 < 32)⟩

/-- The accumulators after the last point: every point's part. -/
theorem elN_last : elN Vr c 31 lastPt.isLt = ∑ t, partN Vr c t :=
  sum_of_steps (elN Vr c) (partN Vr c) (elN_zero Vr c) (elN_succ Vr c) lastPt rfl
/-- The denominator after the last point. -/
theorem elD_last : elD Vr c 31 lastPt.isLt = ∑ t, partD Vr c t :=
  sum_of_steps (elD Vr c) (partD Vr c) (elD_zero Vr c) (elD_succ Vr c) lastPt rfl

end Cert.Proof.Run
-- ==== Proof.KernelValue.lean ====
/-
  The kernel's result: the quotient of the two accumulators.
-/
module

public import Idealize.ShloMosaic.Lib.Pipeline.FrameTail
public import proofs.«01_k».proof.Proof.AccValue

@[expose] public section

noncomputable section

namespace Cert.Proof.Run

open Cert.KernelIdeal Cert.KernelIdeal.Gen
open Idealize.ShloMosaic
open Idealize.ShloMosaic.TcCoe
open Idealize.ShloMosaic.StableHlo (seq after held)
open Idealize.SL.Sem

variable (m : (ℓ : Loc nD τ sig) → Buf (Elt Ideal) ℓ) (d : Dev nD)

/-- The numerator is written back once, whole, at the last point. -/
theorem whole_5 : (cfg1.win 5).WholeAt lastPt := by decide +kernel
/-- So is the denominator. -/
theorem whole_6 : (cfg1.win 6).WholeAt lastPt := by decide +kernel

/-- The numerator's buffer after a point. -/
theorem after_5 (Vr : Dev nD → Valuation τ sig (Elt Ideal)) (t : Fin cfg1.N) : (dats Vr 0 d).after 5 t = accN Vr d t.val t.isLt := by dsimp only [dats]
/-- The denominator's buffer after a point. -/
theorem after_6 (Vr : Dev nD → Valuation τ sig (Elt Ideal)) (t : Fin cfg1.N) : (dats Vr 0 d).after 6 t = accD Vr d t.val t.isLt := by dsimp only [dats]

/-- An accumulator's array after the run, if point `t` writes it back alone and whole. -/
theorem arr_5 (Vr : Dev nD → Valuation τ sig (Elt Ideal)) (t : Fin cfg1.N) (h : (cfg1.win 5).WholeAt t) (j : S1x1.Idx) :
    ((dats Vr 0 d).arrAt 5 cfg1.N : S1x1.Idx → EReal) j = accN Vr d t.val t.isLt j := by
  refine ((dats Vr 0 d).arrAt_emb_eq_after_last 5 t h j).trans ?_
  rw [after_5]
  rfl
/-- The same of the denominator. -/
theorem arr_6 (Vr : Dev nD → Valuation τ sig (Elt Ideal)) (t : Fin cfg1.N) (h : (cfg1.win 6).WholeAt t) (j : S1x1.Idx) :
    ((dats Vr 0 d).arrAt 6 cfg1.N : S1x1.Idx → EReal) j = accD Vr d t.val t.isLt j := by
  refine ((dats Vr 0 d).arrAt_emb_eq_after_last 6 t h j).trans ?_
  rw [after_6]
  rfl

end Cert.Proof.Run
-- ==== Proof.Result.lean ====
/-
  The kernel's result as the quotient of the two accumulators after the last grid point.
-/
module

public import proofs.«01_k».proof.Proof.KernelValue

@[expose] public section

noncomputable section

namespace Cert.Proof.Run

open Cert.KernelIdeal Cert.KernelIdeal.Gen
open Idealize.ShloMosaic
open Idealize.ShloMosaic.TcCoe
open Idealize.ShloMosaic.StableHlo (seq after held)
open Idealize.SL.Sem

variable (m : (ℓ : Loc nD τ sig) → Buf (Elt Ideal) ℓ) (d : Dev nD)

/-- The TensorCore call leaves the accumulators of its last point. -/
theorem V4_v44_0 : (V4 m d (Proc.devRef .tc main_v44_0) : S1x1.Idx → EReal) = ((dats (V3 m) 0 d).arrAt 5 cfg1.N : S1x1.Idx → EReal) :=
  Pipeline.afterRegion_arr (dats (V3 m) 0 d) (V3 m d) winFacts1.arr_inj 5
/-- The same of the denominator. -/
theorem V4_v44_1 : (V4 m d (Proc.devRef .tc main_v44_1) : S1x1.Idx → EReal) = ((dats (V3 m) 0 d).arrAt 6 cfg1.N : S1x1.Idx → EReal) :=
  Pipeline.afterRegion_arr (dats (V3 m) 0 d) (V3 m d) winFacts1.arr_inj 6

/-- The last host lines: the quotient of the two accumulators. -/
theorem after_opsC (V : Valuation τ sig (Elt Ideal)) : (after (opsC (F := Ideal)) V (Proc.devRef .tc main_v48) : FVec Ideal S_ .f32)
    = Host.divf (F := Ideal) (shapeCast S_ (V (Proc.devRef .tc main_v44_0) : FVec Ideal S1x1 .f32) shapeCasts_S1x1_S_)
        (addf (F := Ideal) (shapeCast S_ (V (Proc.devRef .tc main_v44_1) : FVec Ideal S1x1 .f32) shapeCasts_S1x1_S_) (constant S_ .f32 0x322BCC77#32)) := by
  after_results_simp <;> rfl

/-- … read at its one element. -/
theorem quot_elem (x y : FVec Ideal S1x1 .f32) :
    Host.divf (shapeCast S_ x shapeCasts_S1x1_S_) (addf (shapeCast S_ y shapeCasts_S1x1_S_) (constant S_ .f32 0x322BCC77#32)) ix0
      = Ideal.div (x (ix2 0 0)) (y (ix2 0 0) + Ideal.ofBits FTy.f32 841731191#32) := by
  pointwise

/-- The accumulators' arrays at their one element. -/
theorem arr_5_last : ((dats (V3 m) 0 d).arrAt 5 cfg1.N : S1x1.Idx → EReal) (ix2 0 0) = ∑ t, partN (V3 m) d t :=
  (arr_5 d (V3 m) lastPt whole_5 (ix2 0 0)).trans (elN_last (V3 m) d)
/-- The denominator's array at its one element. -/
theorem arr_6_last : ((dats (V3 m) 0 d).arrAt 6 cfg1.N : S1x1.Idx → EReal) (ix2 0 0) = ∑ t, partD (V3 m) d t :=
  (arr_6 d (V3 m) lastPt whole_6 (ix2 0 0)).trans (elD_last (V3 m) d)

/-- The kernel's result: every point's part of the numerator, over every point's part of the denominator plus 1e-8. -/
theorem V5_at : (V5 m d (Proc.devRef .tc main_v48) : FVec Ideal S_ .f32) ix0
    = Ideal.div (∑ t, partN (V3 m) d t) ((∑ t, partD (V3 m) d t) + Ideal.ofBits FTy.f32 841731191#32) := by
  rw [← arr_5_last, ← arr_6_last, ← V4_v44_0, ← V4_v44_1, ← quot_elem]
  exact congrFun (after_opsC (V4 m d)) ix0

end Cert.Proof.Run
-- ==== Proof.Sorted.lean ====
/-
  Facts about a sorted list of naturals and about words built by adding single bits, with no program in them:
  the number of entries below a key is where the key stands if it occurs; the first entry of every run of equal
  entries names each value once; and adding distinct powers of two sets exactly their bits.
-/
module

public import Idealize.ShloMosaic.Lib.SortFacts
public import Idealize.ShloMosaic.Lib.WordCmp

@[expose] public section

namespace Cert.Proof.Sorted

open Idealize.ShloMosaic

/-- In a sorted list, position `i` is among the first `#{entries below x}` exactly when its entry is below `x`. -/
theorem lt_card_iff {n : ℕ} (g : Fin n → ℕ) (hg : Monotone g) (x : ℕ) (i : Fin n) :
    i.val < (Finset.univ.filter fun k => g k < x).card ↔ g i < x := by
  constructor
  · intro h
    by_contra hc
    have hs : (Finset.univ.filter fun k => g k < x) ⊆ Finset.Iio i := fun k hk => by
      rw [Finset.mem_Iio]
      by_contra hki
      exact hc (lt_of_le_of_lt (hg (not_lt.mp hki)) (Finset.mem_filter.mp hk).2)
    have := Finset.card_le_card hs
    rw [Fin.card_Iio] at this
    omega
  · intro h
    have hs : Finset.Iic i ⊆ (Finset.univ.filter fun k => g k < x) := fun k hk =>
      Finset.mem_filter.mpr ⟨Finset.mem_univ _, lt_of_le_of_lt (hg (Finset.mem_Iic.mp hk)) h⟩
    have := Finset.card_le_card hs
    rw [Fin.card_Iic] at this
    omega

/-- Binary search by counting: the entry at the number of entries below `x` (or at the last place) is `x` exactly when `x` occurs. -/
theorem search_iff {n : ℕ} (g : Fin n → ℕ) (hg : Monotone g) (x : ℕ) (q : Fin n)
    (hq : q.val = min (Finset.univ.filter fun k => g k < x).card (n - 1)) : g q = x ↔ ∃ i, g i = x := by
  constructor
  · exact fun h => ⟨q, h⟩
  · rintro ⟨i, hi⟩
    have h1 := (lt_card_iff g hg x i).not.mpr (by omega)
    have hn := i.isLt
    have h2 : q.val = (Finset.univ.filter fun k => g k < x).card := by omega
    have h3 := (lt_card_iff g hg x q).not.mp (by omega)
    have h4 : q ≤ i := Fin.le_def.mpr (by omega)
    have := hg h4
    omega

/-- Position `k` opens a run: it is the first, or its entry differs from the one before. -/
def Opens {n : ℕ} (g : Fin n → ℕ) (k : Fin n) : Prop := ∀ j : Fin n, j.val + 1 = k.val → g j ≠ g k

/-- In a sorted list an opening entry exceeds every earlier one. -/
theorem Opens.lt {n : ℕ} {g : Fin n → ℕ} (hg : Monotone g) {i k : Fin n} (hk : Opens g k) (h : i < k) : g i < g k := by
  have hi : i.val < k.val := h
  have h1 := hk ⟨k.val - 1, by omega⟩ (by show k.val - 1 + 1 = k.val; omega)
  have h2 : g i ≤ g ⟨k.val - 1, by omega⟩ := hg (Fin.le_def.mpr (by show i.val ≤ k.val - 1; omega))
  have h3 : g ⟨k.val - 1, by omega⟩ ≤ g k := hg (Fin.le_def.mpr (by show k.val - 1 ≤ k.val; omega))
  omega

/-- Every value that occurs occurs at an opening entry. -/
theorem exists_opens {n : ℕ} (g : Fin n → ℕ) (i : Fin n) : ∃ k, Opens g k ∧ g k = g i := by
  classical
  have hne : ((Finset.univ : Finset (Fin n)).filter fun k => g k = g i).Nonempty := ⟨i, by simp⟩
  refine ⟨_, fun j hj e => ?_, (Finset.mem_filter.mp (Finset.min'_mem _ hne)).2⟩
  have hm := (Finset.mem_filter.mp (Finset.min'_mem _ hne)).2
  have := Finset.min'_le (Finset.univ.filter fun k => g k = g i) j (Finset.mem_filter.mpr ⟨Finset.mem_univ _, e.trans hm⟩)
  have hle : (Finset.min' _ hne).val ≤ j.val := this
  omega

/-- Adding a power of two whose bit is clear sets that bit. -/
theorem add_twoPow (a : BitVec 32) (b : ℕ) (h : a.getLsbD b = false) : a + BitVec.twoPow 32 b = a ||| BitVec.twoPow 32 b := by
  refine BitVec.add_eq_or_of_and_eq_zero _ _ ?_
  rw [BitVec.and_twoPow, h]
  rfl

/-- Adding powers of two with distinct bits, none yet set, sets exactly those bits. -/
theorem fold_bits {ι : Type} (L : List ι) (p : ι → Prop) [DecidablePred p] (b : ι → ℕ) (hb : ∀ k, b k < 32)
    (hL : L.Pairwise fun i j => p i → p j → b i ≠ b j) (a : BitVec 32) (h0 : ∀ k ∈ L, p k → a.getLsbD (b k) = false) (β : ℕ) :
    (L.foldl (fun a k => if p k then a + BitVec.twoPow 32 (b k) else a) a).getLsbD β = true
      ↔ a.getLsbD β = true ∨ ∃ k ∈ L, p k ∧ b k = β := by
  induction L generalizing a with
  | nil => simp
  | cons k L ih =>
    rw [List.pairwise_cons] at hL
    rw [List.foldl_cons]
    by_cases hp : p k
    · have hk := h0 k List.mem_cons_self hp
      rw [if_pos hp, add_twoPow a _ hk, ih hL.2]
      · have e : (a ||| BitVec.twoPow 32 (b k)).getLsbD β = true ↔ a.getLsbD β = true ∨ b k = β := by
          have := hb k
          rw [BitVec.getLsbD_or, BitVec.getLsbD_twoPow]
          simp only [Bool.or_eq_true, Bool.and_eq_true, decide_eq_true_eq]
          constructor
          · rintro (h | ⟨_, h⟩)
            · exact .inl h
            · exact .inr h
          · rintro (h | h)
            · exact .inl h
            · exact .inr ⟨by omega, h⟩
        rw [e]
        simp only [List.mem_cons, exists_eq_or_imp, or_assoc]
        tauto
      · intro j hj hpj
        rw [BitVec.getLsbD_or, BitVec.getLsbD_twoPow, h0 j (List.mem_cons_of_mem _ hj) hpj, Bool.false_or]
        have := hL.1 j hj hp hpj
        simp [this]
    · rw [if_neg hp, ih hL.2 _ fun j hj => h0 j (List.mem_cons_of_mem _ hj)]
      simp only [List.mem_cons, exists_eq_or_imp]
      tauto

/-- The sorted table, as a list of naturals. -/
def srt {n : ℕ} (cmp : BitVec 32 → BitVec 32 → BitVec 1) (K : IVec ⟨1, ![n]⟩ 32) (k : Fin n) : ℕ :=
  (Host.sort ⟨1, ![n]⟩ 0 cmp K (Shape.Idx.ofFin k)).toNat

/-- Sorting by the signed strict order orders words that are nonnegative. -/
theorem srt_monotone {n : ℕ} (cmp : BitVec 32 → BitVec 32 → BitVec 1) (hcmp : ∀ l r, cmp l r = IntOp.cmpi .slt l r) (K : IVec ⟨1, ![n]⟩ 32)
    (hK : ∀ i, (K i).toNat < 2 ^ 31) : Monotone (srt cmp K) := by
  intro i j hij
  rcases eq_or_lt_of_le hij with rfl | hij
  · exact le_rfl
  unfold srt
  rw [Host.sort_rank1, Host.sort_rank1]
  have hlt : ∀ a b : Fin n, (cmp (K (Shape.Idx.ofFin a)) (K (Shape.Idx.ofFin b)) == 1#1)
      = decide ((K (Shape.Idx.ofFin a)).toNat < (K (Shape.Idx.ofFin b)).toNat) := fun a b => by
    have ha := hK (Shape.Idx.ofFin a)
    have hb := hK (Shape.Idx.ofFin b)
    rw [hcmp]
    show (BitVec.ofBool (BitVec.slt _ _) == 1#1) = _
    rw [BitVec.slt_eq_decide, BitVec.toInt_eq_toNat_of_lt (by omega), BitVec.toInt_eq_toNat_of_lt (by omega)]
    by_cases h : (K (Shape.Idx.ofFin a)).toNat < (K (Shape.Idx.ofFin b)).toNat <;> simp [h]
  have := sortedFrom_noInversion (fun k k' => cmp (K (Shape.Idx.ofFin k)) (K (Shape.Idx.ofFin k')) == 1#1)
    (fun k k' => cmp (K (Shape.Idx.ofFin k)) (K (Shape.Idx.ofFin k')) == 1#1)
    (fun a b h => by rw [hlt] at h ⊢; simp only [decide_eq_true_eq, decide_eq_false_iff_not] at h ⊢; omega)
    (fun a b h => h)
    (fun a b c h h' => by rw [hlt] at h h' ⊢; simp only [decide_eq_false_iff_not] at h h' ⊢; omega) i j hij
  rw [hlt] at this
  simp only [decide_eq_false_iff_not] at this
  exact not_lt.mp this

/-- The sorted table holds the table's values, no other. -/
theorem srt_mem {n : ℕ} (cmp : BitVec 32 → BitVec 32 → BitVec 1) (K : IVec ⟨1, ![n]⟩ 32) (x : ℕ) :
    (∃ k, srt cmp K k = x) ↔ ∃ i, (K i).toNat = x := by
  unfold srt
  constructor
  · rintro ⟨k, h⟩
    rw [Host.sort_rank1] at h
    exact ⟨_, h⟩
  · rintro ⟨i, h⟩
    obtain ⟨k, hk⟩ := sortedFrom_surjective (fun k k' => cmp (K (Shape.Idx.ofFin k)) (K (Shape.Idx.ofFin k')) == 1#1) (i 0)
    refine ⟨k, ?_⟩
    rw [Host.sort_rank1]
    have : Shape.Idx.ofFin k (0 : Fin 1) = k := Shape.Idx.ofFin_zero k
    rw [this, hk]
    exact (congrArg (fun y => (K y).toNat) (Shape.Idx.eq_ofFin i).symm).trans h

/-- A bound on the table's words bounds the sorted ones. -/
theorem srt_lt {n N : ℕ} (cmp : BitVec 32 → BitVec 32 → BitVec 1) (K : IVec ⟨1, ![n]⟩ 32) (hK : ∀ i, (K i).toNat < N) (k : Fin n) :
    srt cmp K k < N := by
  obtain ⟨i, hi⟩ := (srt_mem cmp K (srt cmp K k)).mp ⟨k, rfl⟩
  rw [← hi]
  exact hK i

end Cert.Proof.Sorted
-- ==== Proof.ScatterBits.lean ====
/-
  A scatter-add of single bits at pairs of index words, read at one word of the table: if update `k` of a sorted list of
  keys lands at (key / 20000, key % 20000 / 32) with the bit key % 20000 % 32 when it opens a run of equal keys, and with
  zero otherwise, then a bit of the table is set exactly when its key is in the list.
-/
module

public import Idealize.ShloMosaic.Lib.Routing.OpsPair
public import proofs.«01_k».proof.Proof.Sorted

@[expose] public section

namespace Cert.Proof.Sorted

open Idealize.ShloMosaic Idealize.ShloMosaic.ValueIdx Idealize.ShloMosaic.Routing

/-- Update `a` of a scatter of `n` scalars into an `R × C` matrix, two index words each, lands at `(r, c)` exactly when its words, read signed, are `r` and `c`. -/
theorem lands_pair {R C n w : Nat} (d : ScatterDims (shape2 R C) (shape2 n 2) (shape1 n)) (hiw : d.insertedWindowDims = [0, 1])
    (hsd : d.scatterDimsToOperandDims = [0, 1]) (hivd : d.indexVectorDim = 1) (idx : IVec (shape2 n 2) w)
    (a : Fin n) (r : Fin R) (c : Fin C) :
    d.resultIdx? (ix1 a) idx = some (ix2 r c) ↔ (idx (ix2 a 0)).toInt = r.val ∧ (idx (ix2 a 1)).toInt = c.val := by
  have hm : ∀ q : Fin 2, q ∈ d.scatterDimsToOperandDims := fun q => by rw [hsd]; fin_cases q <;> simp
  have hwin : ∀ q : Fin 2, d.window (ix1 a) q = 0 := fun q => by
    unfold ScatterDims.window
    rw [dif_neg fun h => (of_decide_eq_true (List.mem_filter.1 h).2) (by rw [hiw]; fin_cases q <;> simp)]
  have hsi : ∀ q : Fin 2, d.siIdx (ix1 a) ⟨d.scatterDimsToOperandDims.idxOf q, List.idxOf_lt_length_iff.2 (hm q)⟩ = ix2 a q := fun q => by
    funext b'
    apply Fin.ext
    match b' with
    | ⟨0, _⟩ =>
      unfold ScatterDims.siIdx
      rw [dif_neg (by rw [hivd]; exact (by decide : (0 : ℕ) ≠ 1))]
      unfold ScatterDims.siCoord
      simp only [Fin.val_cast]
      exact congrArg (fun e : Fin 1 => ((ix1 a : (shape1 n).Idx) e).val) (Subsingleton.elim (α := Fin 1) _ 0)
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 a) idx q = (idx (ix2 a q)).toInt := fun q => by
    unfold ScatterDims.start
    rw [dif_pos (hm q), hsi]
  rw [resultIdx?_ix2, hstart, hstart, hwin, hwin]
  omega

/-- The table of bits: bit `β` of word `(r, c)` is set exactly when the key `r · 20000 + (c · 32 + β)` is in the sorted list. -/
theorem scatter_bits {R C n : Nat} (d : ScatterDims (shape2 R C) (shape2 n 2) (shape1 n)) (hiw : d.insertedWindowDims = [0, 1])
    (hsd : d.scatterDimsToOperandDims = [0, 1]) (hivd : d.indexVectorDim = 1) (x0 : IVec (shape2 R C) 32) (idx : IVec (shape2 n 2) 32) (upd : IVec (shape1 n) 32)
    (g : Fin n → ℕ) (hg : Monotone g) (hx : ∀ i, x0 i = 0#32) (h0 : ∀ k, (idx (ix2 k 0)).toInt = ((g k / 20000 : ℕ) : ℤ))
    (h1 : ∀ k, (idx (ix2 k 1)).toInt = ((g k % 20000 / 32 : ℕ) : ℤ))
    (ho : ∀ k, Opens g k → upd (ix1 k) = BitVec.twoPow 32 (g k % 20000 % 32)) (hn : ∀ k, ¬ Opens g k → upd (ix1 k) = 0#32)
    (r : Fin R) (c : Fin C) (β : ℕ) (hβ : β < 32) (hc : c.val * 32 + β < 20000) :
    (Host.scatter d IntOp.addi x0 idx upd (ix2 r c)).getLsbD β = true ↔ ∃ k, g k = r.val * 20000 + (c.val * 32 + β) := by
  classical
  rw [scatter_at, hx]
  have hj : ∀ e : Fin (shape1 n).numel, ∃ k : Fin n, (shape1 n).rowMajor.symm e = ix1 k ∧ k.val = e.val := fun e => by
    refine ⟨(shape1 n).rowMajor.symm e 0, ?_, ?_⟩
    · funext a
      have : a = 0 := Subsingleton.elim (α := Fin 1) _ _
      subst this
      rfl
    · have := Shape.rowMajor_val_one ((shape1 n).rowMajor.symm e)
      rw [Equiv.apply_symm_apply] at this
      exact this.symm
  choose pos hpos hposv using hj
  have hfold : ∀ (L : List (Fin (shape1 n).numel)) (a : BitVec 32),
      L.foldl (fun a e => if d.resultIdx? ((shape1 n).rowMajor.symm e) idx = some (ix2 r c) then IntOp.addi a (upd ((shape1 n).rowMajor.symm e)) else a) a
        = L.foldl (fun a e => if (g (pos e) / 20000 = r.val ∧ g (pos e) % 20000 / 32 = c.val) ∧ Opens g (pos e)
            then a + BitVec.twoPow 32 (g (pos e) % 20000 % 32) else a) a := fun L a => by
    refine congrArg (fun f => L.foldl f a) (funext fun a => funext fun e => ?_)
    have hl := lands_pair d hiw hsd hivd idx (pos e) r c
    rw [h0, h1] at hl
    have hl' : d.resultIdx? ((shape1 n).rowMajor.symm e) idx = some (ix2 r c) ↔ g (pos e) / 20000 = r.val ∧ g (pos e) % 20000 / 32 = c.val := by
      rw [hpos, hl]
      omega
    by_cases hL : g (pos e) / 20000 = r.val ∧ g (pos e) % 20000 / 32 = c.val
    · rw [if_pos (hl'.mpr hL), hpos]
      by_cases hO : Opens g (pos e)
      · rw [if_pos ⟨hL, hO⟩, ho _ hO]
        rfl
      · rw [if_neg fun h => hO h.2, hn _ hO]
        exact BitVec.add_zero a
    · rw [if_neg fun h => hL (hl'.mp h), if_neg fun h => hL h.1]
  rw [hfold, fold_bits _ _ (fun e => g (pos e) % 20000 % 32) (fun e => Nat.mod_lt _ (by omega))]
  · constructor
    · rintro (h | ⟨e, _, ⟨⟨ha, hb⟩, _⟩, hd⟩)
      · simp at h
      · exact ⟨pos e, by omega⟩
    · rintro ⟨k, hk⟩
      obtain ⟨k', hk', he⟩ := exists_opens g k
      refine .inr ⟨(shape1 n).rowMajor (ix1 k'), List.mem_finRange _, ?_⟩
      have hp : pos ((shape1 n).rowMajor (ix1 k')) = k' := Fin.ext (by rw [hposv]; exact Shape.rowMajor_val_one _)
      rw [hp]
      refine ⟨⟨?_, hk'⟩, ?_⟩ <;> omega
  · refine (List.pairwise_lt_finRange _).imp fun {e e'} hlt hp hp' he => ?_
    have := hp'.2.lt hg (show pos e < pos e' from Fin.lt_def.mpr (by rw [hposv, hposv]; exact hlt))
    have h2 := hp.1
    have h3 := hp'.1
    omega
  · intro e _ _
    simp

end Cert.Proof.Sorted
-- ==== Proof.Bitmap.lean ====
/-
  The bitmap the host lines build from the table of keys, as one function of the table, and its bits: bit `c % 32` of word
  `a · 640 + c / 32` is set exactly when the key `a · 20000 + c` is in the table.
-/
module

public import Idealize.ShloMosaic.Lib.Pointwise
public import Idealize.ShloMosaic.Lib.Routing.Words
public import Idealize.ShloMosaic.Lib.Routing.OpsPair
public import Idealize.ShloMosaic.Lib.WordArith
public import proofs.«01_k».proof.Proof.ScatterBits
public import proofs.«01_k».proof.Defs
public import proofs.«01_k».proof.Proof.Gen.KernelIdeal

@[expose] public section

noncomputable section

namespace Cert.Proof.Bitmap

open Cert.KernelIdeal Cert.KernelIdeal.Gen
open Idealize.ShloMosaic hiding ix0 ix1 ix2 ix3 ix4
open Idealize.ShloMosaic.ValueIdx Idealize.ShloMosaic.Routing
open Cert.Proof.Sorted (srt)

/-- A constant at every entry of the list. -/
abbrev cst (b : BitVec 32) : IVec S131072 32 := broadcastInDim S131072 ![] bcast_S_S131072 (constantI S_ 32 b)

/-- The row of every sorted key. -/
abbrev quoV (s : IVec S131072 32) : IVec S131072 32 := pyDiv bcast_S_S131072 s (constantI S_ 32 20000#32)
/-- The column of every sorted key. -/
abbrev remV (s : IVec S131072 32) : IVec S131072 32 := pyRem bcast_S_S131072 s (constantI S_ 32 20000#32)
/-- The word of its row that holds a key's bit. -/
abbrev wordV (s : IVec S131072 32) : IVec S131072 32 := Host.shrui (remV s) (cst 5#32)
/-- The place of a key's bit in its word. -/
abbrev bitV (s : IVec S131072 32) : IVec S131072 32 := andi (remV s) (cst 31#32)
/-- Which sorted entries differ from the one before. -/
abbrev keepV (s : IVec S131072 32) : IVec S131072 1 :=
  concatenate S131072 0 [⟨S1, broadcastInDim S1 ![] bcast_S_S1 (constantI S_ 1 1#1)⟩,
    ⟨S131071, cmpi .ne (extractStridedSlice S131071 ![1] s slices_S131072_S131071_1) (extractStridedSlice S131071 ![0] s slices_S131072_S131071_0)⟩]
    concatenates_S1_S131071_S131072_d0
/-- The bit an entry adds: its own where it opens a run, nothing elsewhere. -/
abbrev updV (s : IVec S131072 32) : IVec S131072 32 := select (keepV s) (Host.shli (cst 1#32) (bitV s)) (cst 0#32)
/-- jnp's wrap of negative indices. -/
abbrev wrapV (x : IVec S131072 32) (n : BitVec 32) : IVec S131072 32 := select (cmpi .slt x (cst 0#32)) (addi x (cst n)) x
/-- Where every entry's bit goes: row, word. -/
abbrev idxV (s : IVec S131072 32) : IVec S131072x2 32 :=
  concatenate S131072x2 1 [⟨S131072x1, broadcastInDim S131072x1 ![0] bcast_S131072_S131072x1_0 (wrapV (quoV s) 20000#32)⟩,
    ⟨S131072x1, broadcastInDim S131072x1 ![0] bcast_S131072_S131072x1_0 (wrapV (wordV s) 640#32)⟩] concatenates_S131072x1_S131072x1_S131072x2_d1
/-- The table of bits, row by word. -/
abbrev tabV (s : IVec S131072 32) : IVec S20000x640 32 :=
  Host.scatter scatter_S20000x640_S131072x2_S131072_n_01_01_1 IntOp.addi (broadcastInDim S20000x640 ![] bcast_S_S20000x640 (constantI S_ 32 0#32)) (idxV s) (updV s)
/-- The bitmap of a table of keys. -/
def bmV (K : IVec S131072 32) : IVec S12800000 32 :=
  shapeCast S12800000 (tabV (Host.sort S131072 0 comparator_i32_d0 K)) shapeCasts_S20000x640_S12800000

section Read
variable (s : IVec S131072 32) (hs : ∀ i, (s i).toNat < 400000000) (k : Fin 131072)

/-- A word is the word of its value. -/
theorem word_eq (x : BitVec 32) : x = BitVec.ofNat 32 x.toNat := by simp

include hs in
/-- A key's row number. -/
theorem quoV_at : quoV s (ix1 k) = BitVec.ofNat 32 ((s (ix1 k)).toNat / 20000) :=
  pyDiv_ap _ s _ (ix1 k) (word_eq _) rfl (lt_trans (hs _) (by norm_num)) (by norm_num) (by norm_num)

include hs in
/-- A key's column number. -/
theorem remV_at : remV s (ix1 k) = BitVec.ofNat 32 ((s (ix1 k)).toNat % 20000) :=
  pyRem_ap _ s _ (ix1 k) (word_eq _) rfl (lt_trans (hs _) (by norm_num)) (by norm_num) (by norm_num)

include hs in
/-- The word of its row that a key's bit lies in. -/
theorem wordV_at : wordV s (ix1 k) = BitVec.ofNat 32 ((s (ix1 k)).toNat % 20000 / 32) := by
  have h := Nat.mod_lt (s (ix1 k)).toNat (show 0 < 20000 by norm_num)
  show IntOp.shrui .host (remV s (ix1 k)) 5#32 = _
  rw [remV_at s hs k]
  apply BitVec.eq_of_toNat_eq
  simp only [IntOp.shrui, BitVec.toNat_ofNat]
  norm_num [Nat.shiftRight_eq_div_pow]
  omega

include hs in
/-- The place of a key's bit in its word. -/
theorem bitV_at : bitV s (ix1 k) = BitVec.ofNat 32 ((s (ix1 k)).toNat % 20000 % 32) := by
  have h := Nat.mod_lt (s (ix1 k)).toNat (show 0 < 20000 by norm_num)
  show IntOp.andi (remV s (ix1 k)) 31#32 = _
  rw [remV_at s hs k]
  apply BitVec.eq_of_toNat_eq
  simp only [IntOp.andi, BitVec.toNat_and, BitVec.toNat_ofNat]
  rw [show 31 % 2 ^ 32 = 2 ^ 5 - 1 by norm_num, Nat.and_two_pow_sub_one_eq_mod]
  omega

/-- A key is kept where it opens its run of equal keys. -/
theorem keepV_at : keepV s (ix1 k) = 1#1 ↔ Sorted.Opens (fun k => (s (ix1 k)).toNat) k := by
  have e : keepV s (ix1 k) = if h : k.val < 1 then 1#1 else IntOp.cmpi .ne (s (ix1 k)) (s (ix1 ⟨k.val - 1, by omega⟩)) := by
    refine (concatenate_pair_apply _ _ _ concatenates_S1_S131071_S131072_d0 (ix1 k)).trans ?_
    by_cases h : k.val < 1
    · refine (dif_pos h).trans (Eq.trans (b := 1#1) rfl ?_)
      rw [dif_pos h]
    · refine (dif_neg h).trans (Eq.trans ?_ (dif_neg h).symm)
      refine congrArg₂ (IntOp.cmpi .ne) (congrArg s (funext fun a => ?_)) (congrArg s (funext fun a => ?_)) <;>
        (have ha : a = 0 := Subsingleton.elim (α := Fin 1) _ _
         subst ha
         apply Fin.ext
         pointwise)
      · show 1 + (k.val - 1) = k.val
        omega
  rw [e]
  by_cases h : k.val < 1
  · rw [dif_pos h]
    exact ⟨fun _ j hj => by omega, fun _ => rfl⟩
  · rw [dif_neg h]
    constructor
    · intro hc j hj hjk
      have hj' : (⟨k.val - 1, by omega⟩ : Fin 131072) = j := Fin.ext (by show k.val - 1 = j.val; omega)
      rw [hj', show s (ix1 j) = s (ix1 k) from BitVec.eq_of_toNat_eq hjk] at hc
      simp [IntOp.cmpi] at hc
    · intro ho
      have := ho ⟨k.val - 1, by omega⟩ (by show k.val - 1 + 1 = k.val; omega)
      have hne : s (ix1 k) ≠ s (ix1 ⟨k.val - 1, by omega⟩) := fun e => this (congrArg BitVec.toNat e).symm
      simp only [IntOp.cmpi]
      rw [bne_iff_ne.mpr hne]
      rfl

/-- The first coordinate a key's bit is added at: its row. -/
theorem idxV_at0 : idxV s (ix2 k 0) = wrapV (quoV s) 20000#32 (ix1 k) := by
  pointwise [idxV]
  rfl
/-- The second: its word. -/
theorem idxV_at1 : idxV s (ix2 k 1) = wrapV (wordV s) 640#32 (ix1 k) := by
  pointwise [idxV]
  rfl
end Read

/-- The sorted table read at a position. -/
theorem sort_eq_srt (K : IVec S131072 32) (k : Fin 131072) :
    (Host.sort S131072 0 comparator_i32_d0 K (ix1 k)).toNat = srt comparator_i32_d0 K k := by
  unfold Sorted.srt
  refine congrArg (fun j => (Host.sort S131072 0 comparator_i32_d0 K j).toNat) (funext fun a => ?_)
  have ha : a = 0 := Subsingleton.elim (α := Fin 1) _ _
  subst ha
  exact (Shape.Idx.ofFin_zero k).symm

/-- A bit of the bitmap is set exactly when its key is in the table. -/
theorem bmV_bit (K : IVec S131072 32) (hK : ∀ i, (K i).toNat < 400000000) (a c : ℕ) (ha : a < 20000) (hc : c < 20000)
    (i : S12800000.Idx) (hi : (i 0).val = a * 640 + c / 32) :
    (bmV K i).getLsbD (c % 32) = true ↔ ∃ p, (K p).toNat = a * 20000 + c := by
  have hS : ∀ j, (Host.sort S131072 0 comparator_i32_d0 K j).toNat < 400000000 := fun j => by
    have hj : j = ix1 (j 0) := funext fun a => by
      have ha : a = 0 := Subsingleton.elim (α := Fin 1) _ _
      subst ha
      rfl
    exact lt_of_eq_of_lt ((congrArg (fun y => (Host.sort S131072 0 comparator_i32_d0 K y).toNat) hj).trans (sort_eq_srt K (j 0)))
      (Sorted.srt_lt comparator_i32_d0 K hK (j 0))
  have hcast : bmV K i = tabV (Host.sort S131072 0 comparator_i32_d0 K) (ix2 (⟨a, ha⟩ : Fin 20000) (⟨c / 32, by omega⟩ : Fin 640)) := by
    refine shapeCast_apply _ _ _ _ ?_
    refine (Shape.rowMajor_val_two _).trans (Eq.trans ?_ (Shape.rowMajor_val_one _).symm)
    exact hi.symm
  rw [hcast]
  generalize hs : Host.sort S131072 0 comparator_i32_d0 K = s at hS ⊢
  have hg : (fun k => (s (ix1 k)).toNat) = srt comparator_i32_d0 K := funext fun k => by rw [← sort_eq_srt, hs]
  have hn : ∀ n : ℕ, n < 20000 → (BitVec.ofNat 32 n).toNat < 2 ^ 31 := fun n hn => by rw [BitVec.toNat_ofNat]; omega
  have hI : ∀ n : ℕ, n < 20000 → (BitVec.ofNat 32 n).toInt = (n : ℤ) := fun n hn => Idealize.ShloMosaic.WordArith.toInt_ofNat_small n (by omega)
  have hm : ∀ k, (s (ix1 k)).toNat / 20000 < 20000 := fun k => by have := hS (ix1 k); omega
  have := Sorted.scatter_bits scatter_S20000x640_S131072x2_S131072_n_01_01_1 rfl rfl rfl
    (broadcastInDim S20000x640 ![] bcast_S_S20000x640 (constantI S_ 32 0#32)) (idxV s) (updV s) (srt comparator_i32_d0 K)
    (Sorted.srt_monotone _ (fun _ _ => rfl) K fun i => lt_trans (hK i) (by norm_num)) (fun _ => rfl)
    (fun k => by
      rw [idxV_at0, ← hg]
      refine (congrArg BitVec.toInt (wrap_of_lt (quoV s (ix1 k)) _ ?_)).trans ?_ <;> rw [quoV_at s hS k]
      · exact hn _ (hm k)
      · exact hI _ (hm k))
    (fun k => by
      have := Nat.mod_lt (s (ix1 k)).toNat (show 0 < 20000 by norm_num)
      rw [idxV_at1, ← hg]
      refine (congrArg BitVec.toInt (wrap_of_lt (wordV s (ix1 k)) _ ?_)).trans ?_ <;> rw [wordV_at s hS k]
      · exact hn _ (by omega)
      · exact hI _ (by omega))
    (fun k ho => by
      rw [← hg] at ho ⊢
      show Scalar.select (keepV s (ix1 k)) (IntOp.shli .host 1#32 (bitV s (ix1 k))) 0#32 = _
      have hb := Nat.mod_lt ((s (ix1 k)).toNat % 20000) (show 0 < 32 by norm_num)
      rw [(keepV_at s k).mpr ho, bitV_at s hS k]
      have hlt : (BitVec.ofNat 32 ((s (ix1 k)).toNat % 20000 % 32)).toNat = (s (ix1 k)).toNat % 20000 % 32 := by
        rw [BitVec.toNat_ofNat]
        omega
      show IntOp.shli .host 1#32 _ = _
      unfold IntOp.shli
      rw [if_pos (by omega), BitVec.shiftLeft_eq', hlt]
      rfl)
    (fun k ho => by
      rw [← hg] at ho
      show Scalar.select (keepV s (ix1 k)) (IntOp.shli .host 1#32 (bitV s (ix1 k))) 0#32 = _
      exact if_neg fun h => ho ((keepV_at s k).mp h))
    (⟨a, ha⟩ : Fin 20000) (⟨c / 32, by omega⟩ : Fin 640) (c % 32) (by omega) (by show c / 32 * 32 + c % 32 < 20000; omega)
  rw [show tabV s (ix2 (⟨a, ha⟩ : Fin 20000) (⟨c / 32, by omega⟩ : Fin 640)) = Host.scatter scatter_S20000x640_S131072x2_S131072_n_01_01_1 IntOp.addi
    (broadcastInDim S20000x640 ![] bcast_S_S20000x640 (constantI S_ 32 0#32)) (idxV s) (updV s) (ix2 (⟨a, ha⟩ : Fin 20000) (⟨c / 32, by omega⟩ : Fin 640)) from rfl,
    this]
  rw [show a * 20000 + (c / 32 * 32 + c % 32) = a * 20000 + c by omega]
  exact Sorted.srt_mem comparator_i32_d0 K _

end Cert.Proof.Bitmap
-- ==== Proof.HostBits.lean ====
/-
  The bitmap the SparseCore call reads, from the host lines: a few lines at a time, each stretch read over whatever the
  buffers held before it.
-/
module

public import proofs.«01_k».proof.Proof.Frames
public import proofs.«01_k».proof.Proof.Bitmap

@[expose] public section

noncomputable section

namespace Cert.Proof.Run

open Cert.KernelIdeal Cert.KernelIdeal.Gen
open Idealize.ShloMosaic
open Idealize.ShloMosaic.TcCoe
open Idealize.ShloMosaic.StableHlo (seq after held)
open Idealize.SL.Sem

variable {F : FTy → Type} [FloatOps F]

/-- A list of operations runs as its first `n` and then the rest. -/
theorem after_split (n : ℕ) (ops : List (HloOp τ sig (Elt F))) (V : Valuation τ sig (Elt F)) :
    after ops V = after (ops.drop n) (after (ops.take n) V) := by
  induction n generalizing ops V with
  | zero => rfl
  | succ n ih =>
    cases ops with
    | nil => rfl
    | cons op ops => exact ih ops (op.result V)

/-- The lines from number `i` on, `n` of them. -/
abbrev seg (i n : ℕ) : List (HloOp τ sig (Elt F)) := ((opsA (F := F)).drop i).take n

variable (V : Valuation τ sig (Elt F))

set_option maxRecDepth 16384

/-- Lines 0 to 11 sort the keys. -/
theorem seg0_v10 : (after (seg 0 12) V (Proc.devRef .tc main_v10) : S131072.Idx → BitVec 32) = Host.sort S131072 0 comparator_i32_d0 (V (Proc.devRef .tc main_arg5) : S131072.Idx → BitVec 32) := by
  simp only [seg, opsA, List.drop_succ_cons, List.drop_zero, List.take_succ_cons, List.take_zero]
  after_results_simp <;> rfl

/-- Lines 12 to 17: which sorted entries open a run. -/
theorem seg1_v15 : (after (seg 12 6) V (Proc.devRef .tc main_v15) : S131072.Idx → BitVec 1) = Bitmap.keepV (V (Proc.devRef .tc main_v10)) := by
  simp only [seg, opsA, List.drop_succ_cons, List.drop_zero, List.take_succ_cons, List.take_zero]
  after_results_simp <;> rfl
/-- A stretch leaves alone what it does not write. -/
theorem seg1_v10 : after (seg 12 6) V (Proc.devRef .tc main_v10) = V (Proc.devRef .tc main_v10) := by
  simp only [seg, opsA, List.drop_succ_cons, List.drop_zero, List.take_succ_cons, List.take_zero]
  after_results_simp <;> rfl

/-- Lines 18 to 35: the keys' rows. -/
theorem seg2_v16 : (after (seg 18 18) V (Proc.devRef .tc main_v16) : S131072.Idx → BitVec 32) = Bitmap.quoV (V (Proc.devRef .tc main_v10)) := by
  simp only [seg, opsA, List.drop_succ_cons, List.drop_zero, List.take_succ_cons, List.take_zero]
  after_results_simp <;> rfl
/-- A stretch leaves alone what it does not write. -/
theorem seg2_v10 : after (seg 18 18) V (Proc.devRef .tc main_v10) = V (Proc.devRef .tc main_v10) := by
  simp only [seg, opsA, List.drop_succ_cons, List.drop_zero, List.take_succ_cons, List.take_zero]
  after_results_simp <;> rfl
/-- A stretch leaves alone what it does not write. -/
theorem seg2_v15 : after (seg 18 18) V (Proc.devRef .tc main_v15) = V (Proc.devRef .tc main_v15) := by
  simp only [seg, opsA, List.drop_succ_cons, List.drop_zero, List.take_succ_cons, List.take_zero]
  after_results_simp <;> rfl

/-- Lines 36 to 57: the keys' columns. -/
theorem seg3_v17 : (after (seg 36 22) V (Proc.devRef .tc main_v17) : S131072.Idx → BitVec 32) = Bitmap.remV (V (Proc.devRef .tc main_v10)) := by
  simp only [seg, opsA, List.drop_succ_cons, List.drop_zero, List.take_succ_cons, List.take_zero]
  after_results_simp <;> rfl
/-- A stretch leaves alone what it does not write. -/
theorem seg3_v15 : after (seg 36 22) V (Proc.devRef .tc main_v15) = V (Proc.devRef .tc main_v15) := by
  simp only [seg, opsA, List.drop_succ_cons, List.drop_zero, List.take_succ_cons, List.take_zero]
  after_results_simp <;> rfl
/-- A stretch leaves alone what it does not write. -/
theorem seg3_v16 : after (seg 36 22) V (Proc.devRef .tc main_v16) = V (Proc.devRef .tc main_v16) := by
  simp only [seg, opsA, List.drop_succ_cons, List.drop_zero, List.take_succ_cons, List.take_zero]
  after_results_simp <;> rfl

/-- Lines 58 to 69: the words, and the bits added. -/
theorem seg4_v19 : (after (seg 58 12) V (Proc.devRef .tc main_v19) : S131072.Idx → BitVec 32) = Host.shrui (V (Proc.devRef .tc main_v17)) (Bitmap.cst 5#32) := by
  simp only [seg, opsA, List.drop_succ_cons, List.drop_zero, List.take_succ_cons, List.take_zero]
  after_results_simp <;> rfl
/-- Lines 58 to 69: the bits added. -/
theorem seg4_v24 : (after (seg 58 12) V (Proc.devRef .tc main_v24) : S131072.Idx → BitVec 32) = select (V (Proc.devRef .tc main_v15) : S131072.Idx → BitVec 1) (Host.shli (Bitmap.cst 1#32) (andi (V (Proc.devRef .tc main_v17)) (Bitmap.cst 31#32))) (Bitmap.cst 0#32) := by
  simp only [seg, opsA, List.drop_succ_cons, List.drop_zero, List.take_succ_cons, List.take_zero]
  after_results_simp <;> rfl
/-- A stretch leaves alone what it does not write. -/
theorem seg4_v16 : after (seg 58 12) V (Proc.devRef .tc main_v16) = V (Proc.devRef .tc main_v16) := by
  simp only [seg, opsA, List.drop_succ_cons, List.drop_zero, List.take_succ_cons, List.take_zero]
  after_results_simp <;> rfl

/-- Lines 70 to 91: the scatter. -/
theorem seg5_v41 : (after (seg 70 22) V (Proc.devRef .tc main_v41) : S12800000.Idx → BitVec 32) = shapeCast S12800000
      (Host.scatter scatter_S20000x640_S131072x2_S131072_n_01_01_1 IntOp.addi (broadcastInDim S20000x640 ![] bcast_S_S20000x640 (constantI S_ 32 0#32))
        (concatenate S131072x2 1 [⟨S131072x1, broadcastInDim S131072x1 ![0] bcast_S131072_S131072x1_0 (Bitmap.wrapV (V (Proc.devRef .tc main_v16)) 20000#32)⟩,
          ⟨S131072x1, broadcastInDim S131072x1 ![0] bcast_S131072_S131072x1_0 (Bitmap.wrapV (V (Proc.devRef .tc main_v19)) 640#32)⟩]
          concatenates_S131072x1_S131072x1_S131072x2_d1) (V (Proc.devRef .tc main_v24) : S131072.Idx → BitVec 32)) shapeCasts_S20000x640_S12800000 := by
  simp only [seg, opsA, List.drop_succ_cons, List.drop_zero, List.take_succ_cons, List.take_zero]
  after_results_simp <;> rfl

/-- The lines before the SparseCore call, stretch by stretch. -/
theorem opsA_split : after opsA V = after (seg 70 22) (after (seg 58 12) (after (seg 36 22) (after (seg 18 18) (after (seg 12 6) (after (seg 0 12) V))))) := by
  rw [after_split 12, after_split 6 (opsA.drop 12), after_split 18 ((opsA.drop 12).drop 6), after_split 22 (((opsA.drop 12).drop 6).drop 18),
    after_split 12 ((((opsA.drop 12).drop 6).drop 18).drop 22)]
  simp only [List.drop_drop, seg]
  rfl

variable (m : (ℓ : Loc nD τ sig) → Buf (Elt F) ℓ)

/-- The bitmap the SparseCore call reads is the bitmap of the sixth argument's keys. -/
theorem BM_eq (d : Dev nD) : BM m d = Bitmap.bmV (m (d, Proc.devRef .tc main_arg5) : S131072.Idx → BitVec 32) := by
  refine Eq.trans (b := after (opsA (F := F)) (V0 m d) (Proc.devRef .tc main_v41)) rfl ?_
  rw [opsA_split, seg5_v41, seg4_v19, seg4_v24, seg4_v16, seg3_v17, seg3_v15, seg3_v16, seg2_v16, seg2_v10, seg2_v15, seg1_v15, seg1_v10, seg0_v10]
  rfl

end Cert.Proof.Run
-- ==== Proof.RefTerms.lean ====
/-
  The reference's result as a composition of named steps, each a function of the steps before it.
-/
module

public import proofs.«01_k».proof.Defs
public import proofs.«01_k».proof.Proof.Gen.ReferenceIdeal
public import proofs.«01_k».proof.Proof.Gen.ReferenceIdeal.Run

@[expose] public section

noncomputable section

namespace Cert.Proof.Ref

open Cert.ReferenceIdeal Cert.ReferenceIdeal.Gen
open Idealize.ShloMosaic
open Idealize.ShloMosaic.TcCoe
open Idealize.SL.Sem

variable {F : FTy → Type} [FloatOps F]

/-- The table of keys, sorted. -/
def sortV (x5 : IVec S131072 32) : IVec S131072 32 :=
  Host.sort S131072 0 comparator_i32_d0 x5

/-- The key of every pair. -/
def keyV (x0 : IVec S4x2048 32) : IVec S4x2048x2048 32 :=
  addi (broadcastInDim S4x2048x2048 ![0, 1, 2] bcast_S4x2048x1_S4x2048x2048_0_1_2 (muli (broadcastInDim S4x2048x1 ![0, 1] bcast_S4x2048_S4x2048x1_0_1 x0) (broadcastInDim S4x2048x1 ![] bcast_S_S4x2048x1 (constantI S_ 32 20000#32)))) (broadcastInDim S4x2048x2048 ![0, 1, 2] bcast_S4x1x2048_S4x2048x2048_0_1_2 (broadcastInDim S4x1x2048 ![0, 2] bcast_S4x2048_S4x1x2048_0_2 x0))

/-- How many sorted keys lie below each pair's key. -/
def cntV (s : IVec S131072 32) (k : IVec S4x2048x2048 32) : IVec S4x2048x2048 32 :=
  Host.reduce IntOp.addi (extui 32 (cmpi .slt (broadcastInDim S4x2048x2048x131072 ![0, 1, 2, 3] bcast_S1x1x1x131072_S4x2048x2048x131072_0_1_2_3 (broadcastInDim S1x1x1x131072 ![3] bcast_S131072_S1x1x1x131072_3 s)) (broadcastInDim S4x2048x2048x131072 ![0, 1, 2, 3] bcast_S4x2048x2048x1_S4x2048x2048x131072_0_1_2_3 (broadcastInDim S4x2048x2048x1 ![0, 1, 2] bcast_S4x2048x2048_S4x2048x2048x1_0_1_2 k))) natLt_1_32) (constantI S_ 32 0#32) reducesTo_S4x2048x2048x131072_S4x2048x2048_d3 h_S_

/-- A count, held within the table. -/
def posV (n : IVec S4x2048x2048 32) : IVec S4x2048x2048 32 :=
  minsi (broadcastInDim S4x2048x2048 ![] bcast_S_S4x2048x2048 (id (constantI S_ 32 131071#32))) (maxsi (broadcastInDim S4x2048x2048 ![] bcast_S_S4x2048x2048 (id (constantI S_ 32 0#32))) n)

/-- jnp's wrap of negative positions. -/
def wposV (p : IVec S4x2048x2048 32) : IVec S4x2048x2048 32 :=
  select (cmpi .slt p (broadcastInDim S4x2048x2048 ![] bcast_S_S4x2048x2048 (constantI S_ 32 0#32))) (addi p (broadcastInDim S4x2048x2048 ![] bcast_S_S4x2048x2048 (constantI S_ 32 131072#32))) p

/-- The positions as start indices. -/
def colV (q : IVec S4x2048x2048 32) : IVec S4x2048x2048x1 32 :=
  broadcastInDim S4x2048x2048x1 ![0, 1, 2] bcast_S4x2048x2048_S4x2048x2048x1_0_1_2 q

/-- Which positions lie in the table. -/
def inrV (w : IVec S4x2048x2048x1 32) : IVec S4x2048x2048 1 :=
  Host.reduce IntOp.andi (andi (cmpi .sge w (broadcastInDim S4x2048x2048x1 ![] bcast_S_S4x2048x2048x1 (constantI S_ 32 0#32))) (cmpi .sle w (broadcastInDim S4x2048x2048x1 ![0, 1, 2, 3] bcast_S1x1x1x1_S4x2048x2048x1_0_1_2_3 (broadcastInDim S1x1x1x1 ![3] bcast_S1_S1x1x1x1_3 (constantI S1 32 131071#32))))) (constantI S_ 1 1#1) reducesTo_S4x2048x2048x1_S4x2048x2048_d3 h_S_

/-- The sorted keys at the positions. -/
def takeV (s : IVec S131072 32) (w : IVec S4x2048x2048x1 32) : IVec S4x2048x2048 32 :=
  select (inrV w) (Host.gather gather_S131072_S4x2048x2048x1_S4x2048x2048_n_0_n_n_0_3_1 s w) (broadcastInDim S4x2048x2048 ![] bcast_S_S4x2048x2048 (constantI S_ 32 2147483648#32))

/-- Which pairs' keys are in the table. -/
def isinV (s : IVec S131072 32) (k : IVec S4x2048x2048 32) : IVec S4x2048x2048 1 :=
  cmpi .eq (takeV s (colV (wposV (posV (cntV s k))))) k

/-- The active genes. -/
def actV (x0 : IVec S4x2048 32) (x2 : IVec S4x2048 1) : IVec S4x2048 1 :=
  andi (cmpi .ne x0 (broadcastInDim S4x2048 ![] bcast_S_S4x2048 (constantI S_ 32 0#32))) (noti x2)

/-- The active transcription factors. -/
def tfV (x0 : IVec S4x2048 32) (x1 x2 : IVec S4x2048 1) : IVec S4x2048 1 :=
  andi (actV x0 x2) (noti x1)

/-- The supervised pairs. -/
def supV (tf act : IVec S4x2048 1) : IVec S4x2048x2048 1 :=
  andi (broadcastInDim S4x2048x2048 ![0, 1, 2] bcast_S4x2048x1_S4x2048x2048_0_1_2 (broadcastInDim S4x2048x1 ![0, 1] bcast_S4x2048_S4x2048x1_0_1 tf)) (broadcastInDim S4x2048x2048 ![0, 1, 2] bcast_S4x1x2048_S4x2048x2048_0_1_2 (broadcastInDim S4x1x2048 ![0, 2] bcast_S4x2048_S4x1x2048_0_2 act))

/-- The target. -/
def tgtV (e u : IVec S4x2048x2048 1) : FVec F S4x2048x2048 .f32 :=
  uitofp .f32 (andi e u)

/-- The clamped edge probability. -/
def probV (x3 x4 : FVec F S4x2048x64 .f32) : FVec F S4x2048x2048 .f32 :=
  minimumf (broadcastInDim S4x2048x2048 ![] bcast_S_S4x2048x2048 (id (constant S_ .f32 0x3F800000#32))) (maximumf (broadcastInDim S4x2048x2048 ![] bcast_S_S4x2048x2048 (id (constant S_ .f32 0x322BCC77#32))) (Host.dotGeneral dot_S4x2048x64_S4x2048x64_S4x2048x2048_2_2_1_1_0_0 none x3 x4))

/-- The cross entropy. -/
def lossV (g p : FVec F S4x2048x2048 .f32) : FVec F S4x2048x2048 .f32 :=
  Host.negf (addf (mulf g (Host.log p)) (mulf (subf (broadcastInDim S4x2048x2048 ![] bcast_S_S4x2048x2048 (constant S_ .f32 0x3F800000#32)) g) (Host.log (subf (broadcastInDim S4x2048x2048 ![] bcast_S_S4x2048x2048 (constant S_ .f32 0x3F800000#32)) p))))

/-- The weights. -/
def wgtV (g : FVec F S4x2048x2048 .f32) : FVec F S4x2048x2048 .f32 :=
  addf (mulf g (broadcastInDim S4x2048x2048 ![] bcast_S_S4x2048x2048 (constant S_ .f32 0x3F800000#32))) (mulf (subf (broadcastInDim S4x2048x2048 ![] bcast_S_S4x2048x2048 (constant S_ .f32 0x3F800000#32)) g) (broadcastInDim S4x2048x2048 ![] bcast_S_S4x2048x2048 (constant S_ .f32 0x3F800000#32)))

/-- The reference's result. -/
def refV (x0 : IVec S4x2048 32) (x1 x2 : IVec S4x2048 1) (x3 x4 : FVec F S4x2048x64 .f32) (x5 : IVec S131072 32) : FVec F S_ .f32 :=
  Host.divf (Host.reduceAdd (mulf (mulf (lossV (tgtV (isinV (sortV x5) (keyV x0)) (supV (tfV x0 x1 x2) (actV x0 x2))) (probV x3 x4)) (wgtV (tgtV (isinV (sortV x5) (keyV x0)) (supV (tfV x0 x1 x2) (actV x0 x2))))) (uitofp .f32 (supV (tfV x0 x1 x2) (actV x0 x2)))) (constant S_ .f32 0x00000000#32) reducesTo_S4x2048x2048_S_d0_1_2 h_S_) (addf (Host.reduceAdd (mulf (wgtV (tgtV (isinV (sortV x5) (keyV x0)) (supV (tfV x0 x1 x2) (actV x0 x2)))) (uitofp .f32 (supV (tfV x0 x1 x2) (actV x0 x2)))) (constant S_ .f32 0x00000000#32) reducesTo_S4x2048x2048_S_d0_1_2 h_S_) (constant S_ .f32 0x322BCC77#32))

/-- The run's result is the reference's composition of its arguments. -/
theorem res_eq (m : (ℓ : Loc nD τ sig) → Buf (Elt F) ℓ) (c : Dev nD) :
    Value.res_main_v57 m c = refV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v57 refV lossV wgtV probV tgtV supV tfV actV isinV takeV inrV colV wposV posV cntV keyV sortV
  rfl

end Cert.Proof.Ref
-- ==== Proof.RefMember.lean ====
/-
  The reference's search: a pair's mask bit is set exactly when its key is in the table.
-/
module

public import Idealize.ShloMosaic.Lib.Pointwise
public import Idealize.ShloMosaic.Lib.ReduceAll
public import Idealize.ShloMosaic.Lib.IndicatorCount
public import Idealize.ShloMosaic.Lib.WordArith
public import Idealize.ShloMosaic.Lib.Routing.Words
public import Idealize.ShloMosaic.Lib.Routing.OpsSearch
public import Idealize.ShloMosaic.Lib.Routing.OpsPair
public import proofs.«01_k».proof.Proof.Sorted
public import proofs.«01_k».proof.Proof.RefTerms

@[expose] public section

noncomputable section

namespace Cert.Proof.Ref

open Cert.ReferenceIdeal Cert.ReferenceIdeal.Gen
open Idealize.ShloMosaic

variable (b : Fin 4) (i j : Fin 2048)

/-- A pair's key: the row's gene times 20000, plus the column's. -/
theorem keyV_at (x0 : IVec S4x2048 32) : keyV x0 (ix3 b i j) = x0 (ix2 b i) * 20000#32 + x0 (ix2 b j) := by
  pointwise [keyV]
  rfl

/-- A pair is supervised when its row is a transcription factor and its column active. -/
theorem supV_at (tf act : IVec S4x2048 1) : supV tf act (ix3 b i j) = IntOp.andi (tf (ix2 b i)) (act (ix2 b j)) := by
  pointwise [supV]

/-- The count of the keys below a pair's key. -/
theorem cntV_at (s : IVec S131072 32) (k : IVec S4x2048x2048 32) :
    cntV s k (ix3 b i j) = BitVec.ofNat 32 (Finset.univ.filter fun n : Fin 131072 => IntOp.cmpi .slt (s (ix1 n)) (k (ix3 b i j)) = 1#1).card := by
  have hR : S4x2048x2048x131072.Reduces [3] S4x2048x2048 := by decide
  unfold cntV
  rw [Host.reduce_eq_fold_single _ _ _ _ hR]
  rw [← IndicatorCount.fold_addi_setWidth_eq_card]
  refine Finset.fold_congr fun n _ => ?_
  have hl : hR.lift (ix3 b i j) n = ix4 b i j n := by
    funext c
    match c with
    | ⟨0, _⟩ => rfl
    | ⟨1, _⟩ => rfl
    | ⟨2, _⟩ => rfl
    | ⟨3, _⟩ => rfl
  rw [Function.comp_apply, hl]
  pointwise

/-- The gather reads the sorted table at the position, read signed and clamped. -/
theorem gather_at (s : IVec S131072 32) (w : IVec S4x2048x2048x1 32) :
    Host.gather gather_S131072_S4x2048x2048x1_S4x2048x2048_n_0_n_n_0_3_1 s w (ix3 b i j)
      = s (ix1 (⟨min (w (ix4 b i j (0 : Fin 1))).toInt.toNat 131071, by omega⟩ : Fin 131072)) := by
  unfold Host.gather
  refine congrArg s (funext fun a => ?_)
  have ha0 : a = 0 := Subsingleton.elim (α := Fin 1) _ _
  subst ha0
  apply Fin.ext
  have hm : (0 : Fin 1) ∈ gather_S131072_S4x2048x2048x1_S4x2048x2048_n_0_n_n_0_3_1.startIndexMap := List.mem_singleton.mpr rfl
  have hb : (0 : Fin 1) ∉ gather_S131072_S4x2048x2048x1_S4x2048x2048_n_0_n_n_0_3_1.operandBatchingDims := List.not_mem_nil
  have hk : (0 : Fin 1) ∉ gather_S131072_S4x2048x2048x1_S4x2048x2048_n_0_n_n_0_3_1.sKept := by
    rw [GatherDims.mem_sKept]
    exact fun h => h.1 (List.mem_singleton.mpr rfl)
  simp only [GatherDims.operandIdx, GatherDims.batchCoord_eq_zero _ _ _ hb, GatherDims.offCoord_eq_zero _ _ _ hk,
    Nat.add_zero, GatherDims.start, dif_pos hm]
  refine congrArg (fun y => min (w y).toInt.toNat 131071) (funext fun c => ?_)
  match c with
  | ⟨0, _⟩ => rfl
  | ⟨1, _⟩ => rfl
  | ⟨2, _⟩ => rfl
  | ⟨3, _⟩ => rfl

/-- In a sorted table the search finds a pair's key exactly when the table holds it. -/
theorem isinV_at (s : IVec S131072 32) (k : IVec S4x2048x2048 32) (hs : ∀ n, (s n).toNat < 2 ^ 31) (hk : (k (ix3 b i j)).toNat < 2 ^ 31)
    (hg : Monotone fun n : Fin 131072 => (s (ix1 n)).toNat) :
    isinV s k (ix3 b i j) = 1#1 ↔ ∃ n : Fin 131072, (s (ix1 n)).toNat = (k (ix3 b i j)).toNat := by
  have hc : (Finset.univ.filter fun n : Fin 131072 => IntOp.cmpi .slt (s (ix1 n)) (k (ix3 b i j)) = 1#1)
      = Finset.univ.filter fun n : Fin 131072 => (s (ix1 n)).toNat < (k (ix3 b i j)).toNat := by
    refine Finset.filter_congr fun n _ => ?_
    rw [WordCmp.cmpi_slt_of_lt (hs (ix1 n)) hk, WordArith.ofBool_eq_one_iff, decide_eq_true_iff]
  have hcard : (Finset.univ.filter fun n : Fin 131072 => (s (ix1 n)).toNat < (k (ix3 b i j)).toNat).card ≤ 131072 :=
    le_trans (Finset.card_le_univ _) (by simp)
  set C := (Finset.univ.filter fun n : Fin 131072 => (s (ix1 n)).toNat < (k (ix3 b i j)).toNat).card with hC
  have hpos : ∀ a a' c', posV (cntV s k) (ix3 a a' c') = IntOp.minsi (BitVec.ofNat 32 131071) (IntOp.maxsi (BitVec.ofNat 32 0) (cntV s k (ix3 a a' c'))) :=
    fun a a' c' => rfl
  have hp : posV (cntV s k) (ix3 b i j) = BitVec.ofNat 32 (min C 131071) := by
    rw [hpos, cntV_at, hc, ← hC, Routing.clip_word (by omega) (by norm_num) (by norm_num), Nat.max_eq_left (Nat.zero_le _)]
  have hall : ∀ a a' c', ∃ q, q ≤ 131071 ∧ posV (cntV s k) (ix3 a a' c') = BitVec.ofNat 32 q := fun a a' c' => by
    refine ⟨min (Finset.univ.filter fun n : Fin 131072 => IntOp.cmpi .slt (s (ix1 n)) (k (ix3 a a' c')) = 1#1).card 131071, Nat.min_le_right _ _, ?_⟩
    have := Finset.card_le_univ (Finset.univ.filter fun n : Fin 131072 => IntOp.cmpi .slt (s (ix1 n)) (k (ix3 a a' c')) = 1#1)
    rw [Fintype.card_fin] at this
    rw [hpos, cntV_at, Routing.clip_word (by omega) (by norm_num) (by norm_num), Nat.max_eq_left (Nat.zero_le _)]
  have hw : ∀ a a' c', wposV (posV (cntV s k)) (ix3 a a' c') = posV (cntV s k) (ix3 a a' c') := fun a a' c' => by
    obtain ⟨q, hq, e⟩ := hall a a' c'
    have h := Routing.wrap_of_lt (posV (cntV s k) (ix3 a a' c')) (posV (cntV s k) (ix3 a a' c') + 131072#32) (by
      rw [e, BitVec.toNat_ofNat]
      omega)
    have hdef : ∀ (p : IVec S4x2048x2048 32) x, wposV p x = Scalar.select (IntOp.cmpi .slt (p x) 0#32) (p x + 131072#32) (p x) := fun p x => rfl
    rw [hdef]
    exact h
  have hcol : ∀ a a' c' (z : Fin 1), colV (wposV (posV (cntV s k))) (ix4 a a' c' z) = posV (cntV s k) (ix3 a a' c') := fun a a' c' z => by
    rw [← hw]
    generalize wposV (posV (cntV s k)) = q
    pointwise [colV]
  have hin : inrV (colV (wposV (posV (cntV s k)))) (ix3 b i j) = 1#1 := by
    refine Host.reduce_andi_one _ _ _ _ _ rfl fun y => ?_
    obtain ⟨q, hq, e⟩ := hall (y 0) (y 1) (y 2)
    have hy : y = ix4 (y 0) (y 1) (y 2) (y 3) := by
      funext c
      match c with
      | ⟨0, _⟩ => rfl
      | ⟨1, _⟩ => rfl
      | ⟨2, _⟩ => rfl
      | ⟨3, _⟩ => rfl
    show IntOp.andi (IntOp.cmpi .sge (colV (wposV (posV (cntV s k))) y) 0#32) (IntOp.cmpi .sle (colV (wposV (posV (cntV s k))) y) 131071#32) = 1#1
    have ey : colV (wposV (posV (cntV s k))) y = BitVec.ofNat 32 q := (congrArg (colV (wposV (posV (cntV s k)))) hy).trans ((hcol _ _ _ _).trans e)
    have hqi : (BitVec.ofNat 32 q).toInt = (q : ℤ) := WordArith.toInt_ofNat_small q (by omega)
    rw [ey]
    have h1 : IntOp.cmpi .sge (BitVec.ofNat 32 q) 0#32 = 1#1 := by
      show BitVec.ofBool (decide (_ ≤ _)) = _
      rw [WordArith.ofBool_eq_one_iff, decide_eq_true_iff, hqi]
      simp
    have h2 : IntOp.cmpi .sle (BitVec.ofNat 32 q) 131071#32 = 1#1 := by
      show BitVec.ofBool (decide (_ ≤ _)) = _
      rw [WordArith.ofBool_eq_one_iff, decide_eq_true_iff, hqi]
      show (q : ℤ) ≤ 131071
      omega
    rw [h1, h2]
    rfl
  have hq : min (BitVec.ofNat 32 (min C 131071)).toInt.toNat 131071 = min C (131072 - 1) := by
    rw [WordArith.toInt_ofNat_small _ (by omega)]
    omega
  have htake : takeV s (colV (wposV (posV (cntV s k)))) (ix3 b i j) = s (ix1 (⟨min C (131072 - 1), by omega⟩ : Fin 131072)) := by
    have hsel : takeV s (colV (wposV (posV (cntV s k)))) (ix3 b i j) = Scalar.select (inrV (colV (wposV (posV (cntV s k)))) (ix3 b i j))
        (Host.gather gather_S131072_S4x2048x2048x1_S4x2048x2048_n_0_n_n_0_3_1 s (colV (wposV (posV (cntV s k)))) (ix3 b i j)) 2147483648#32 := rfl
    rw [hsel, hin, gather_at]
    refine congrArg s (congrArg ix1 (Fin.ext ?_))
    show min (colV (wposV (posV (cntV s k))) (ix4 b i j (0 : Fin 1))).toInt.toNat 131071 = _
    rw [hcol, hp]
    exact hq
  have := Sorted.search_iff (fun n : Fin 131072 => (s (ix1 n)).toNat) hg (k (ix3 b i j)).toNat ⟨min C (131072 - 1), by omega⟩ rfl
  rw [← this]
  show IntOp.cmpi .eq (takeV s (colV (wposV (posV (cntV s k)))) (ix3 b i j)) (k (ix3 b i j)) = 1#1 ↔ _
  rw [htake]
  show BitVec.ofBool (_ == _) = 1#1 ↔ _
  rw [WordArith.ofBool_eq_one_iff, beq_iff_eq]
  exact ⟨fun h => congrArg BitVec.toNat h, fun h => BitVec.eq_of_toNat_eq h⟩

end Cert.Proof.Ref
-- ==== Proof.MaskValue.lean ====
/-
  The mask the SparseCore call leaves, at the ideal values: 1 at (b, i, j) where the table of keys holds the key of the
  pair of ids, else 0.  And the two masks of rows and columns the TensorCore call reads.
-/
module

public import proofs.«01_k».proof.Proof.HostBits
public import proofs.«01_k».proof.Proof.RefMember

@[expose] public section

noncomputable section

namespace Cert.Proof.Run

open Cert.KernelIdeal Cert.KernelIdeal.Gen
open Idealize.ShloMosaic
open Idealize.ShloMosaic.TcCoe
open Idealize.ShloMosaic.StableHlo (seq after held)
open Idealize.SL.Sem

/-- A bit of a word as a float is 1 if the bit is set, else 0. -/
theorem bitF_ideal (w b : BitVec 32) (hb : b.toNat < 32) : bitF (F := Ideal) w b = if w.getLsbD b.toNat = true then (1 : EReal) else 0 := by
  have e : IntOp.shrui .vector w b = w >>> b.toNat := by simp [IntOp.shrui, hb]
  have e2 : IntOp.andi (IntOp.shrui .vector w b) 1#32 = if w.getLsbD b.toNat = true then 1#32 else 0#32 := by
    rw [e]
    ext k hk
    by_cases hk0 : k = 0
    · subst hk0
      cases h : w.getLsbD b.toNat <;> simp [IntOp.andi, h]
    · cases h : w.getLsbD b.toNat <;> simp [IntOp.andi, hk0, BitVec.getElem_one]
  show ((((IntOp.andi (IntOp.shrui .vector w b) 1#32).toInt : ℤ) : ℝ) : EReal) = _
  rw [e2]
  split <;> simp

variable (m : (ℓ : Loc nD τ sig) → Buf (Elt Ideal) ℓ)

/-- The mask the TensorCore call reads is the SparseCore call's result. -/
theorem V3_v43 (d : Dev nD) : V3 m d (Proc.devRef .tc main_v43)
    = shapeCast S4x2048x2048 (gout (F := Ideal) (BM m d) (ID m d)) shapeCasts_S16777216_S4x2048x2048 := by
  refine Eq.trans (b := after (opsB (F := Ideal)) (V2 m d) (Proc.devRef .tc main_v43)) rfl ?_
  have h : V2 m d (Proc.devRef .tc main_v42) = gout (F := Ideal) (BM m d) (ID m d) := Function.update_self _ _ _
  rw [← h]
  generalize V2 m d = V
  after_results_simp <;> rfl

set_option maxRecDepth 16384 in
/-- The active columns the TensorCore call reads. -/
theorem V3_v7 (d : Dev nD) : V3 m d (Proc.devRef .tc main_v7)
    = shapeCast S4x1x2048 (uitofp .f32 (Ref.actV (m (d, Proc.devRef .tc main_arg0)) (m (d, Proc.devRef .tc main_arg2))) : FVec Ideal S4x2048 .f32) shapeCasts_S4x2048_S4x1x2048 := by
  refine Eq.trans (b := after (opsB (F := Ideal)) (V2 m d) (Proc.devRef .tc main_v7)) rfl ?_
  have h : V2 m d (Proc.devRef .tc main_v7) = V1 m d (Proc.devRef .tc main_v7) := Function.update_of_ne (by decide) _ _
  have h1 : V1 m d (Proc.devRef .tc main_v7) = shapeCast S4x1x2048 (uitofp .f32 (Ref.actV (m (d, Proc.devRef .tc main_arg0)) (m (d, Proc.devRef .tc main_arg2))) : FVec Ideal S4x2048 .f32) shapeCasts_S4x2048_S4x1x2048 := by
    refine Eq.trans (b := after (opsA (F := Ideal)) (V0 m d) (Proc.devRef .tc main_v7)) rfl ?_
    after_results_simp <;> rfl
  refine Eq.trans ?_ (h.trans h1)
  generalize V2 m d = V
  after_results_simp <;> rfl

set_option maxRecDepth 16384 in
/-- The active transcription factors the TensorCore call reads. -/
theorem V3_v9 (d : Dev nD) : V3 m d (Proc.devRef .tc main_v9)
    = shapeCast S32x1x256 (uitofp .f32 (Ref.tfV (m (d, Proc.devRef .tc main_arg0)) (m (d, Proc.devRef .tc main_arg1)) (m (d, Proc.devRef .tc main_arg2))) : FVec Ideal S4x2048 .f32) shapeCasts_S4x2048_S32x1x256 := by
  refine Eq.trans (b := after (opsB (F := Ideal)) (V2 m d) (Proc.devRef .tc main_v9)) rfl ?_
  have h : V2 m d (Proc.devRef .tc main_v9) = V1 m d (Proc.devRef .tc main_v9) := Function.update_of_ne (by decide) _ _
  have h1 : V1 m d (Proc.devRef .tc main_v9) = shapeCast S32x1x256 (uitofp .f32 (Ref.tfV (m (d, Proc.devRef .tc main_arg0)) (m (d, Proc.devRef .tc main_arg1)) (m (d, Proc.devRef .tc main_arg2))) : FVec Ideal S4x2048 .f32) shapeCasts_S4x2048_S32x1x256 := by
    refine Eq.trans (b := after (opsA (F := Ideal)) (V0 m d) (Proc.devRef .tc main_v9)) rfl ?_
    after_results_simp <;> rfl
  refine Eq.trans ?_ (h.trans h1)
  generalize V2 m d = V
  after_results_simp <;> rfl

/-- Id `b · 2048 + i` of the flattened ids is id `i` of row `b`. -/
theorem idAt_eq (x : S4x2048.Idx → BitVec 32) (b : Fin 4) (i : Fin 2048) (n : ℕ) (hn : n = b.val * 2048 + i.val) :
    idAt (shapeCast S8192 x shapeCasts_S4x2048_S8192) n = x (ix2 b i) := by
  unfold idAt
  refine shapeCast_apply x _ _ (ix2 b i) ?_
  rw [Shape.rowMajor_val_two, Shape.rowMajor_val_one]
  show b.val * 2048 + i.val = n % 8192
  omega

/-- The mask holds 1 at (b, i, j) where the table holds the key of the pair, else 0. -/
theorem mask_at (d : Dev nD) (x0 : S4x2048.Idx → BitVec 32) (x5 : S131072.Idx → BitVec 32)
    (e0 : m (d, Proc.devRef .tc main_arg0) = x0) (e5 : m (d, Proc.devRef .tc main_arg5) = x5)
    (h0 : ∀ i, (x0 i).toNat < 20000) (h5 : ∀ i, (x5 i).toNat < 400000000) (b : Fin 4) (i j : Fin 2048) [Decidable (∃ p, (x5 p).toNat = (x0 (ix2 b i)).toNat * 20000 + (x0 (ix2 b j)).toNat)] :
    shapeCast S4x2048x2048 (gout (F := Ideal) (BM m d) (ID m d)) shapeCasts_S16777216_S4x2048x2048 (ix3 b i j)
      = if ∃ p, (x5 p).toNat = (x0 (ix2 b i)).toNat * 20000 + (x0 (ix2 b j)).toNat then (1 : EReal) else 0 := by
  have hpos : b.val * 4194304 + i.val * 2048 + j.val < 16777216 := by omega
  refine (shapeCast_apply _ _ _ (ix1 ⟨b.val * 4194304 + i.val * 2048 + j.val, hpos⟩) ?_).trans ?_
  · rw [Shape.rowMajor_val_three, Shape.rowMajor_val_one]
    show b.val * 4194304 + i.val * 2048 + j.val = (b.val * 2048 + i.val) * 2048 + j.val
    omega
  rw [BM_eq, ID_eq, e0, e5]
  show goutAt (F := Ideal) _ _ ((b.val * 4194304 + i.val * 2048 + j.val) / 2048) ((b.val * 4194304 + i.val * 2048 + j.val) % 2048) = _
  unfold goutAt
  rw [idAt_eq x0 b i _ (by omega), idAt_eq x0 b j _ (by omega)]
  have ha := h0 (ix2 b i)
  have hc := h0 (ix2 b j)
  generalize x0 (ix2 b i) = a at *
  generalize x0 (ix2 b j) = c at *
  have e1 : (IntOp.shrui .vector c 5#32).toNat = c.toNat / 32 := by
    simp [IntOp.shrui, Nat.shiftRight_eq_div_pow]
  have e2 : (IntOp.andi c 31#32).toNat = c.toNat % 32 := by
    simp only [IntOp.andi, BitVec.toNat_and]
    exact Nat.and_two_pow_sub_one_eq_mod _ 5
  rw [bitF_ideal _ _ (by rw [e2]; omega), e2, e1]
  unfold bmAt
  have hb := Bitmap.bmV_bit x5 h5 a.toNat c.toNat ha hc (ix1 ⟨(a.toNat * 640 + c.toNat / 32) % 12800000, Nat.mod_lt _ (by decide)⟩)
    (by show (a.toNat * 640 + c.toNat / 32) % 12800000 = _; omega)
  exact if_congr hb rfl rfl

end Cert.Proof.Run
-- ==== Proof.RefValue.lean ====
/-
  The reference's result at the ideal values: the supervised cross entropies summed, over the number of supervised pairs.
-/
module

public import proofs.«01_k».proof.Proof.RefMember
public import proofs.«01_k».proof.Proof.Payload

@[expose] public section

noncomputable section

namespace Cert.Proof.Ref

open Cert.ReferenceIdeal Cert.ReferenceIdeal.Gen
open Idealize.ShloMosaic
open Cert.Proof.Run (crossE)

/-- A bit as a number. -/
def bitE (u : BitVec 1) : EReal := ((u.toNat : ℝ) : EReal)

/-- A clear bit is 0. -/
theorem bitE_zero : bitE 0#1 = 0 := by simp [bitE]
/-- A set bit is 1. -/
theorem bitE_one : bitE 1#1 = 1 := by simp [bitE]

/-- A bit is 0 or 1. -/
theorem bit_cases (u : BitVec 1) : u = 0#1 ∨ u = 1#1 := by
  revert u; decide

/-- A pair's score is the inner product of its two rows. -/
def score (x3 x4 : FVec Ideal S4x2048x64 .f32) (b : Fin 4) (i j : Fin 2048) : EReal :=
  ∑ x : Fin 64, x3 (ix3 b i x) * x4 (ix3 b j x)

/-- A pair's probability is its score held between 1e-8 and 1. -/
theorem prob_at (x3 x4 : FVec Ideal S4x2048x64 .f32) (b : Fin 4) (i j : Fin 2048) :
    probV x3 x4 (ix3 b i j) = min 1 (max (Ideal.ofBits FTy.f32 841731191#32) (score x3 x4 b i j)) := by
  pointwise [probV, id, score]

/-- A pair's cross entropy. -/
theorem loss_at (g p : FVec Ideal S4x2048x2048 .f32) (b : Fin 4) (i j : Fin 2048) :
    lossV g p (ix3 b i j) = -(g (ix3 b i j) * Ideal.log (p (ix3 b i j)) + (1 - g (ix3 b i j)) * Ideal.log (1 - p (ix3 b i j))) := by
  pointwise [lossV]

/-- A pair's weight, both class weights being 1. -/
theorem wgt_at (g : FVec Ideal S4x2048x2048 .f32) (b : Fin 4) (i j : Fin 2048) :
    wgtV g (ix3 b i j) = g (ix3 b i j) + (1 - g (ix3 b i j)) := by
  pointwise [wgtV]

/-- A pair's target. -/
theorem tgt_at (e u : IVec S4x2048x2048 1) (b : Fin 4) (i j : Fin 2048) :
    tgtV (F := Ideal) e u (ix3 b i j) = bitE (IntOp.andi (e (ix3 b i j)) (u (ix3 b i j))) := rfl

/-- A supervised pair's weight is 1 whatever its target; an unsupervised pair's counts for nothing. -/
theorem weight_bits (e tf act : BitVec 1) :
    (bitE (IntOp.andi e (IntOp.andi tf act)) + (1 - bitE (IntOp.andi e (IntOp.andi tf act)))) * bitE (IntOp.andi tf act) = bitE tf * bitE act := by
  have h1 : IntOp.andi 1#1 1#1 = 1#1 := rfl
  have h2 : IntOp.andi 0#1 1#1 = 0#1 := rfl
  have h3 : IntOp.andi 1#1 0#1 = 0#1 := rfl
  have h4 : IntOp.andi 0#1 0#1 = 0#1 := rfl
  have h5 : (1 : EReal) - 1 = 0 := by rw [← EReal.coe_one, ← EReal.coe_sub, sub_self, EReal.coe_zero]
  rcases bit_cases e with rfl | rfl <;> rcases bit_cases tf with rfl | rfl <;> rcases bit_cases act with rfl | rfl <;>
    simp [h1, h2, h3, h4, bitE_zero, bitE_one, h5]

/-- A pair's part of the numerator: its cross entropy where it is supervised. -/
theorem loss_bits (e tf act : BitVec 1) (q : EReal) :
    (-(bitE (IntOp.andi e (IntOp.andi tf act)) * Ideal.log (min 1 (max (Ideal.ofBits FTy.f32 841731191#32) q))
        + (1 - bitE (IntOp.andi e (IntOp.andi tf act))) * Ideal.log (1 - min 1 (max (Ideal.ofBits FTy.f32 841731191#32) q)))
      * (bitE (IntOp.andi e (IntOp.andi tf act)) + (1 - bitE (IntOp.andi e (IntOp.andi tf act))))) * bitE (IntOp.andi tf act)
      = crossE (bitE e) q * (bitE tf * bitE act) := by
  have h1 : IntOp.andi 1#1 1#1 = 1#1 := rfl
  have h2 : IntOp.andi 0#1 1#1 = 0#1 := rfl
  have h3 : IntOp.andi 1#1 0#1 = 0#1 := rfl
  have h4 : IntOp.andi 0#1 0#1 = 0#1 := rfl
  have h5 : (1 : EReal) - 1 = 0 := by rw [← EReal.coe_one, ← EReal.coe_sub, sub_self, EReal.coe_zero]
  rcases bit_cases e with rfl | rfl <;> rcases bit_cases tf with rfl | rfl <;> rcases bit_cases act with rfl | rfl <;>
    simp [h1, h2, h3, h4, bitE_zero, bitE_one, h5, crossE]

/-- A pair's bit: its key is in the table. -/
abbrev memb (x0 : IVec S4x2048 32) (x5 : IVec S131072 32) : IVec S4x2048x2048 1 := isinV (sortV x5) (keyV x0)

/-- The quotient of the two sums over every pair. -/
theorem quot_at (l g : FVec Ideal S4x2048x2048 .f32) (u : IVec S4x2048x2048 1) :
    Host.divf (Host.reduceAdd (mulf (mulf l g) (uitofp .f32 u)) (constant S_ .f32 0x00000000#32) reducesTo_S4x2048x2048_S_d0_1_2 h_S_)
      (addf (Host.reduceAdd (mulf g (uitofp .f32 u)) (constant S_ .f32 0x00000000#32) reducesTo_S4x2048x2048_S_d0_1_2 h_S_) (constant S_ .f32 0x322BCC77#32)) ix0
      = Ideal.div (∑ b : Fin 4, ∑ i : Fin 2048, ∑ j : Fin 2048, l (ix3 b i j) * g (ix3 b i j) * bitE (u (ix3 b i j)))
        ((∑ b : Fin 4, ∑ i : Fin 2048, ∑ j : Fin 2048, g (ix3 b i j) * bitE (u (ix3 b i j))) + Ideal.ofBits FTy.f32 841731191#32) := by
  have e : ∀ x, (FloatOps.uitofp FTy.f32 (u x) : Ideal .f32) = bitE (u x) := fun _ => rfl
  pointwise
  simp only [e]

/-- The reference's result, its pairs' bits any. -/
theorem quot_eq (e : IVec S4x2048x2048 1) (tf act : IVec S4x2048 1) (x3 x4 : FVec Ideal S4x2048x64 .f32) :
    Host.divf (Host.reduceAdd (mulf (mulf (lossV (tgtV e (supV tf act)) (probV x3 x4)) (wgtV (tgtV e (supV tf act)))) (uitofp .f32 (supV tf act))) (constant S_ .f32 0x00000000#32) reducesTo_S4x2048x2048_S_d0_1_2 h_S_)
      (addf (Host.reduceAdd (mulf (wgtV (tgtV e (supV tf act))) (uitofp .f32 (supV tf act))) (constant S_ .f32 0x00000000#32) reducesTo_S4x2048x2048_S_d0_1_2 h_S_) (constant S_ .f32 0x322BCC77#32)) ix0
      = Ideal.div (∑ b : Fin 4, ∑ i : Fin 2048, ∑ j : Fin 2048, crossE (bitE (e (ix3 b i j))) (score x3 x4 b i j)
            * (bitE (tf (ix2 b i)) * bitE (act (ix2 b j))))
        ((∑ b : Fin 4, ∑ i : Fin 2048, ∑ j : Fin 2048, bitE (tf (ix2 b i)) * bitE (act (ix2 b j)))
            + Ideal.ofBits FTy.f32 841731191#32) := by
  refine (quot_at _ _ _).trans ?_
  refine congrArg₂ Ideal.div ?_ (congrArg (· + Ideal.ofBits FTy.f32 841731191#32) ?_)
  · refine Finset.sum_congr rfl fun b _ => Finset.sum_congr rfl fun i _ => Finset.sum_congr rfl fun j _ => ?_
    rw [loss_at, wgt_at, tgt_at, prob_at, supV_at]
    exact loss_bits _ _ _ _
  · refine Finset.sum_congr rfl fun b _ => Finset.sum_congr rfl fun i _ => Finset.sum_congr rfl fun j _ => ?_
    rw [wgt_at, tgt_at, supV_at]
    exact weight_bits _ _ _

/-- The reference's result. -/
theorem refV_at (x0 : IVec S4x2048 32) (x1 x2 : IVec S4x2048 1) (x3 x4 : FVec Ideal S4x2048x64 .f32) (x5 : IVec S131072 32) :
    refV x0 x1 x2 x3 x4 x5 ix0
      = Ideal.div (∑ b : Fin 4, ∑ i : Fin 2048, ∑ j : Fin 2048, crossE (bitE (memb x0 x5 (ix3 b i j))) (score x3 x4 b i j)
            * (bitE (tfV x0 x1 x2 (ix2 b i)) * bitE (actV x0 x2 (ix2 b j))))
        ((∑ b : Fin 4, ∑ i : Fin 2048, ∑ j : Fin 2048, bitE (tfV x0 x1 x2 (ix2 b i)) * bitE (actV x0 x2 (ix2 b j)))
            + Ideal.ofBits FTy.f32 841731191#32) :=
  quot_eq (memb x0 x5) (tfV x0 x1 x2) (actV x0 x2) x3 x4

end Cert.Proof.Ref
-- ==== Proof.Sums.lean ====
/-
  Sums over the grid's points as sums over batches and rows.
-/
module

public import Idealize.ShloMosaic.Lib.Pointwise
public import proofs.«01_k».proof.Proof.Blocks
public import proofs.«01_k».proof.Proof.RefValue

@[expose] public section

noncomputable section

namespace Cert.Proof.Run

open Cert.KernelIdeal Cert.KernelIdeal.Gen
open Idealize.ShloMosaic
open Cert.Proof.Ref (bitE)

/-- A point of the grid and a row of its block are a batch and a row. -/
def pointRow : Fin 32 × Fin 256 ≃ Fin 4 × Fin 2048 where
  toFun p := (⟨p.1.val / 8, by omega⟩, ⟨p.1.val % 8 * 256 + p.2.val, by omega⟩)
  invFun q := (⟨q.1.val * 8 + q.2.val / 256, by omega⟩, ⟨q.2.val % 256, by omega⟩)
  left_inv p := by
    refine Prod.ext (Fin.ext ?_) (Fin.ext ?_)
    · show p.1.val / 8 * 8 + (p.1.val % 8 * 256 + p.2.val) / 256 = p.1.val
      omega
    · show (p.1.val % 8 * 256 + p.2.val) % 256 = p.2.val
      omega
  right_inv q := by
    refine Prod.ext (Fin.ext ?_) (Fin.ext ?_)
    · show (q.1.val * 8 + q.2.val / 256) / 8 = q.1.val
      omega
    · show (q.1.val * 8 + q.2.val / 256) % 8 * 256 + q.2.val % 256 = q.2.val
      omega

/-- Summing every row of every point's block sums every row of every batch. -/
theorem sum_points (g : Fin 4 → Fin 2048 → EReal) :
    ∑ t : Fin cfg1.N, ∑ i : Fin 256, g (batch t) (row t i) = ∑ b : Fin 4, ∑ r : Fin 2048, g b r := by
  rw [← Fintype.sum_prod_type', ← Fintype.sum_prod_type']
  exact Fintype.sum_equiv pointRow (fun p => g (batch p.1) (row p.1 p.2)) (fun q => g q.1 q.2) fun p => rfl

/-- The real numbers' sums among the extended ones. -/
def coeHom : ℝ →+ EReal where
  toFun := Real.toEReal
  map_zero' := EReal.coe_zero
  map_add' := EReal.coe_add

/-- A product of two sums of bits is the sum of their products. -/
theorem sum_mul_sum_bits {n k : ℕ} (a : Fin n → BitVec 1) (b : Fin k → BitVec 1) :
    (∑ i, bitE (a i)) * (∑ j, bitE (b j)) = ∑ i, ∑ j, bitE (a i) * bitE (b j) := by
  have h1 : ∀ (m : ℕ) (f : Fin m → ℝ), ∑ i, ((f i : ℝ) : EReal) = ((∑ i, f i : ℝ) : EReal) := fun m f => (map_sum coeHom f Finset.univ).symm
  unfold Ref.bitE
  simp only [h1, ← EReal.coe_mul]
  rw [Finset.sum_mul_sum]

end Cert.Proof.Run
-- ==== Proof.RefMask.lean ====
/-
  The reference's mask bit of a pair: whether the table holds the pair's key.
-/
module

public import proofs.«01_k».proof.Proof.RefValue
public import proofs.«01_k».proof.Proof.Sorted

@[expose] public section

noncomputable section

namespace Cert.Proof.Ref

open Cert.ReferenceIdeal Cert.ReferenceIdeal.Gen
open Idealize.ShloMosaic
open Cert.Proof.Sorted (srt)

/-- The sorted table's word at a position. -/
theorem sortV_at (K : IVec S131072 32) (j : S131072.Idx) : (sortV K j).toNat = srt comparator_i32_d0 K (j 0) := by
  unfold Sorted.srt
  refine congrArg (fun j => (Host.sort S131072 0 comparator_i32_d0 K j).toNat) (funext fun a => ?_)
  have ha : a = 0 := Subsingleton.elim (α := Fin 1) _ _
  subst ha
  exact (Shape.Idx.ofFin_zero (j 0)).symm

/-- A pair's mask bit is 1 where the table holds the pair's key, else 0. -/
theorem memb_at (x0 : IVec S4x2048 32) (x5 : IVec S131072 32) (h0 : ∀ i, (x0 i).toNat < 20000) (h5 : ∀ i, (x5 i).toNat < 400000000)
    (b : Fin 4) (i j : Fin 2048) [Decidable (∃ p, (x5 p).toNat = (x0 (ix2 b i)).toNat * 20000 + (x0 (ix2 b j)).toNat)] :
    bitE (memb x0 x5 (ix3 b i j)) = if ∃ p, (x5 p).toNat = (x0 (ix2 b i)).toNat * 20000 + (x0 (ix2 b j)).toNat then (1 : EReal) else 0 := by
  have hk : (keyV x0 (ix3 b i j)).toNat = (x0 (ix2 b i)).toNat * 20000 + (x0 (ix2 b j)).toNat := by
    have ha := h0 (ix2 b i)
    have hc := h0 (ix2 b j)
    rw [keyV_at, BitVec.toNat_add, BitVec.toNat_mul, BitVec.toNat_ofNat]
    omega
  have hlt : (keyV x0 (ix3 b i j)).toNat < 2 ^ 31 := by
    have ha := h0 (ix2 b i)
    have hc := h0 (ix2 b j)
    rw [hk]
    omega
  have hm := Sorted.srt_monotone comparator_i32_d0 (fun _ _ => rfl) x5 fun i => lt_trans (h5 i) (by norm_num)
  have key : memb x0 x5 (ix3 b i j) = 1#1 ↔ ∃ p, (x5 p).toNat = (x0 (ix2 b i)).toNat * 20000 + (x0 (ix2 b j)).toNat := by
    refine (isinV_at b i j (sortV x5) (keyV x0) (fun n => ?_) hlt (fun n n' h => ?_)).trans ?_
    · rw [sortV_at]
      exact lt_trans (Sorted.srt_lt comparator_i32_d0 x5 h5 _) (by norm_num)
    · show (sortV x5 (ix1 n)).toNat ≤ (sortV x5 (ix1 n')).toNat
      rw [sortV_at, sortV_at]
      exact hm h
    · rw [hk]
      refine Iff.trans (exists_congr fun n => ?_) (Sorted.srt_mem comparator_i32_d0 x5 _)
      rw [sortV_at]
      exact Iff.rfl
  generalize memb x0 x5 (ix3 b i j) = e at key
  rcases bit_cases e with rfl | rfl
  · rw [if_neg (fun h => absurd (key.mpr h) (by decide)), bitE_zero]
  · rw [if_pos (key.mp rfl), bitE_one]

end Cert.Proof.Ref
-- ==== Proof.Match.lean ====
/-
  The kernel's sums over the grid's points are the reference's sums over every pair.
-/
module

public import proofs.«01_k».proof.Proof.Result
public import proofs.«01_k».proof.Proof.MaskValue
public import proofs.«01_k».proof.Proof.Sums
public import proofs.«01_k».proof.Proof.RefMask

@[expose] public section

noncomputable section

namespace Cert.Proof.Run

open Cert.KernelIdeal Cert.KernelIdeal.Gen
open Idealize.ShloMosaic
open Idealize.ShloMosaic.TcCoe
open Idealize.SL.Sem
open Cert.Proof.Ref (bitE score memb tfV actV)

variable (m : (ℓ : Loc nD τ sig) → Buf (Elt Ideal) ℓ) (d : Dev nD)
variable (x0 : IVec S4x2048 32) (x1 x2 : IVec S4x2048 1) (x3 x4 : FVec Ideal S4x2048x64 .f32) (x5 : IVec S131072 32)

/-- The rows' embeddings at a point are the fourth argument's. -/
theorem blkU_at (e3 : m (d, Proc.devRef .tc main_arg3) = x3) (t : Fin cfg1.N) (i : Fin 256) (k : Fin 64) :
    blkU (V3 m) d t (ix3 0 i k) = x3 (ix3 (batch t) (row t i) k) :=
  (stg_0_at (V3 m) d t i k).trans (congrFun ((V3_arg m d main_arg3 (by decide)).trans e3) _)
/-- The columns' embeddings at a point are the fifth argument's. -/
theorem blkV_at (e4 : m (d, Proc.devRef .tc main_arg4) = x4) (t : Fin cfg1.N) (j : Fin 2048) (k : Fin 64) :
    blkV (V3 m) d t (ix3 0 j k) = x4 (ix3 (batch t) j k) :=
  (stg_1_at (V3 m) d t j k).trans (congrFun ((V3_arg m d main_arg4 (by decide)).trans e4) _)
/-- The mask at a point is the reference's mask bit of each pair. -/
theorem blkM_at (e0 : m (d, Proc.devRef .tc main_arg0) = x0) (e5 : m (d, Proc.devRef .tc main_arg5) = x5)
    (h0 : ∀ i, (x0 i).toNat < 20000) (h5 : ∀ i, (x5 i).toNat < 400000000) (t : Fin cfg1.N) (i : Fin 256) (j : Fin 2048) :
    blkM (V3 m) d t (ix3 0 i j) = bitE (memb x0 x5 (ix3 (batch t) (row t i) j)) := by
  classical
  refine ((stg_2_at (V3 m) d t i j).trans (congrFun (V3_v43 m d) _)).trans ?_
  rw [Ref.memb_at x0 x5 h0 h5]
  exact mask_at m d x0 x5 e0 e5 h0 h5 (batch t) (row t i) j
/-- The rows' bits at a point are the reference's. -/
theorem blkT_at (e0 : m (d, Proc.devRef .tc main_arg0) = x0) (e1 : m (d, Proc.devRef .tc main_arg1) = x1) (e2 : m (d, Proc.devRef .tc main_arg2) = x2)
    (t : Fin cfg1.N) (i : Fin 256) : blkT (V3 m) d t (ix3 0 0 i) = bitE (tfV x0 x1 x2 (ix2 (batch t) (row t i))) := by
  refine ((stg_3_at (V3 m) d t i).trans (congrFun (V3_v9 m d) _)).trans ?_
  rw [e0, e1, e2]
  refine (shapeCast_apply _ _ _ (ix2 (batch t) (row t i)) ?_).trans rfl
  rw [Shape.rowMajor_val_two, Shape.rowMajor_val_three]
  show t.val / 8 * 2048 + (t.val % 8 * 256 + i.val) = (t.val * 1 + 0) * 256 + i.val
  omega
/-- The columns' bits at a point are the reference's. -/
theorem blkA_at (e0 : m (d, Proc.devRef .tc main_arg0) = x0) (e2 : m (d, Proc.devRef .tc main_arg2) = x2)
    (t : Fin cfg1.N) (j : Fin 2048) : blkA (V3 m) d t (ix3 0 0 j) = bitE (actV x0 x2 (ix2 (batch t) j)) := by
  refine ((stg_4_at (V3 m) d t j).trans (congrFun (V3_v7 m d) _)).trans ?_
  rw [e0, e2]
  refine (shapeCast_apply _ _ _ (ix2 (batch t) j) ?_).trans rfl
  rw [Shape.rowMajor_val_two, Shape.rowMajor_val_three]
  show t.val / 8 * 2048 + j.val = (t.val / 8 * 1 + 0) * 2048 + j.val
  omega

/-- A pair's part of the numerator and of the denominator. -/
def pairN (b : Fin 4) (i j : Fin 2048) : EReal :=
  crossE (bitE (memb x0 x5 (ix3 b i j))) (score x3 x4 b i j) * (bitE (tfV x0 x1 x2 (ix2 b i)) * bitE (actV x0 x2 (ix2 b j)))
/-- A pair's part of the denominator. -/
def pairD (b : Fin 4) (i j : Fin 2048) : EReal := bitE (tfV x0 x1 x2 (ix2 b i)) * bitE (actV x0 x2 (ix2 b j))

/-- A point's part of the numerator is its pairs'. -/
theorem partN_eq (e0 : m (d, Proc.devRef .tc main_arg0) = x0) (e1 : m (d, Proc.devRef .tc main_arg1) = x1) (e2 : m (d, Proc.devRef .tc main_arg2) = x2)
    (e3 : m (d, Proc.devRef .tc main_arg3) = x3) (e4 : m (d, Proc.devRef .tc main_arg4) = x4) (e5 : m (d, Proc.devRef .tc main_arg5) = x5)
    (h0 : ∀ i, (x0 i).toNat < 20000) (h5 : ∀ i, (x5 i).toNat < 400000000) (t : Fin cfg1.N) :
    partN (V3 m) d t = ∑ i : Fin 256, ∑ j : Fin 2048, pairN x0 x1 x2 x3 x4 x5 (batch t) (row t i) j := by
  unfold partN pairN score
  refine Finset.sum_congr rfl fun i _ => ?_
  refine Finset.sum_congr rfl fun j _ => ?_
  rw [blkM_at m d x0 x5 e0 e5 h0 h5, blkT_at m d x0 x1 x2 e0 e1 e2, blkA_at m d x0 x2 e0 e2]
  simp only [blkU_at m d x3 e3, blkV_at m d x4 e4]

/-- A point's part of the denominator is its pairs'. -/
theorem partD_eq (e0 : m (d, Proc.devRef .tc main_arg0) = x0) (e1 : m (d, Proc.devRef .tc main_arg1) = x1) (e2 : m (d, Proc.devRef .tc main_arg2) = x2) (t : Fin cfg1.N) :
    partD (V3 m) d t = ∑ i : Fin 256, ∑ j : Fin 2048, pairD x0 x1 x2 (batch t) (row t i) j := by
  refine Eq.trans ?_ (sum_mul_sum_bits (fun i : Fin 256 => tfV x0 x1 x2 (ix2 (batch t) (row t i))) (fun j : Fin 2048 => actV x0 x2 (ix2 (batch t) j)))
  unfold partD
  simp only [blkT_at m d x0 x1 x2 e0 e1 e2, blkA_at m d x0 x2 e0 e2]

/-- The numerators agree. -/
theorem sumN (e0 : m (d, Proc.devRef .tc main_arg0) = x0) (e1 : m (d, Proc.devRef .tc main_arg1) = x1) (e2 : m (d, Proc.devRef .tc main_arg2) = x2)
    (e3 : m (d, Proc.devRef .tc main_arg3) = x3) (e4 : m (d, Proc.devRef .tc main_arg4) = x4) (e5 : m (d, Proc.devRef .tc main_arg5) = x5)
    (h0 : ∀ i, (x0 i).toNat < 20000) (h5 : ∀ i, (x5 i).toNat < 400000000) :
    ∑ t, partN (V3 m) d t = ∑ b : Fin 4, ∑ i : Fin 2048, ∑ j : Fin 2048, pairN x0 x1 x2 x3 x4 x5 b i j := by
  simp only [partN_eq m d x0 x1 x2 x3 x4 x5 e0 e1 e2 e3 e4 e5 h0 h5]
  exact sum_points fun b i => ∑ j : Fin 2048, pairN x0 x1 x2 x3 x4 x5 b i j

/-- The denominators agree. -/
theorem sumD (e0 : m (d, Proc.devRef .tc main_arg0) = x0) (e1 : m (d, Proc.devRef .tc main_arg1) = x1) (e2 : m (d, Proc.devRef .tc main_arg2) = x2) :
    ∑ t, partD (V3 m) d t = ∑ b : Fin 4, ∑ i : Fin 2048, ∑ j : Fin 2048, pairD x0 x1 x2 b i j := by
  simp only [partD_eq m d x0 x1 x2 e0 e1 e2]
  exact sum_points fun b i => ∑ j : Fin 2048, pairD x0 x1 x2 b i j

/-- The kernel's result is the reference's, of the same arguments. -/
theorem result_eq (e0 : m (d, Proc.devRef .tc main_arg0) = x0) (e1 : m (d, Proc.devRef .tc main_arg1) = x1) (e2 : m (d, Proc.devRef .tc main_arg2) = x2)
    (e3 : m (d, Proc.devRef .tc main_arg3) = x3) (e4 : m (d, Proc.devRef .tc main_arg4) = x4) (e5 : m (d, Proc.devRef .tc main_arg5) = x5)
    (h0 : ∀ i, (x0 i).toNat < 20000) (h5 : ∀ i, (x5 i).toNat < 400000000) :
    (V5 m d (Proc.devRef .tc main_v48) : FVec Ideal S_ .f32) = Ref.refV x0 x1 x2 x3 x4 x5 := by
  funext j
  have hj : j = ix0 := funext fun a => a.elim0
  subst hj
  rw [V5_at, sumN m d x0 x1 x2 x3 x4 x5 e0 e1 e2 e3 e4 e5 h0 h5, sumD m d x0 x1 x2 e0 e1 e2]
  exact (Ref.refV_at x0 x1 x2 x3 x4 x5).symm

end Cert.Proof.Run
-- ==== Proof.Algebraic.lean ====
/-
  The kernel's result is the reference's at the ideal values.
-/
module

public import proofs.«01_k».proof.Proof.Match

@[expose] public section

noncomputable section

namespace Cert.Proof

open Idealize.ShloMosaic Idealize.SL.Sem
open Idealize.ShloMosaic.TcCoe
open Cert.Proof.Run

/-- The result's buffer is among those the run speaks of. -/
theorem v48_uc : (Proc.devRef .tc Cert.KernelIdeal.main_v48 : DevRef Cert.KernelIdeal.τ Cert.KernelIdeal.sig) ∈ Cert.Proof.Run.ucRefs := by decide

/-- The reference's frame under the index ranges. -/
theorem frame_reference_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run m ρ)

/-- From memories that agree on the arguments the kernel and the reference end with the same result. -/
theorem algebraic : Cert.algebraic_KernelIdeal_ReferenceIdeal := fun m g m' g' hp ha => by
  refine ⟨fun c => Run.V5 m c (Proc.devRef .tc Cert.KernelIdeal.main_v48), ?_, ?_⟩
  · exact (θ_run Cert.KernelIdeal.defs _ _).mono
      (fun _ h c => ⟨h.1 c _ v48_uc, frame_of_run m h c _ (by decide), frame_of_run m h c _ (by decide), frame_of_run m h c _ (by decide),
        frame_of_run m h c _ (by decide), frame_of_run m h c _ (by decide), frame_of_run m h c _ (by decide)⟩)
      (run_main (F := Ideal) m g (ids_lt m fun d => (pre_ranges (hp d)).1))
  · refine (θ_run Cert.ReferenceIdeal.defs _ _).mono (fun _ h c => ⟨(h c).1.trans ?_, (h c).2⟩) (Cert.ReferenceIdeal.Value.run m' g')
    obtain ⟨e0, e1, e2, e3, e4, e5⟩ := ha c
    have hr := pre_ranges (hp c)
    rw [Ref.res_eq]
    exact (result_eq m c _ _ _ _ _ _ e0.symm e1.symm e2.symm e3.symm e4.symm e5.symm
      (fun i => by rw [e0]; exact hr.1 i) (fun i => by rw [e5]; exact hr.2 i)).symm

end Cert.Proof

end
-- ==== Proof.lean ====
module

public import proofs.«01_k».proof.Proof.Gen.ReferenceIdeal.Run
public import proofs.«01_k».proof.Proof.Frames
public import proofs.«01_k».proof.Proof.Algebraic
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_in_range, trivial, algebraic⟩

end Cert.Proof

end
